-- ==== Defs.lean ====
def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateIdeal_state_in_range [hPre_state_in_range : Cert.Pre_state_in_range.Facts] (m : (ℓ : Loc Cert.UpdateIdeal.nD Cert.UpdateIdeal.τ Cert.UpdateIdeal.sig) → Buf (Elt Ideal) ℓ) : Prop :=
  ∀ c : Dev Cert.UpdateIdeal.nD,
    (Cert.Pre_state_in_range.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4)) (m ((c.tc : Thread Cert.UpdateIdeal.nD Cert.UpdateIdeal.τ).loc Cert.UpdateIdeal.main_arg5)) (m ((c.tc : Thread Cert.UpdateIdeal.nD Cert.UpdateIdeal.τ).loc Cert.UpdateIdeal.main_arg6)) (m ((c.tc : Thread Cert.UpdateIdeal.nD Cert.UpdateIdeal.τ).loc Cert.UpdateIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_state_in_range [hPre_state_in_range : Cert.Pre_state_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_state_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3)
      ∧ r.2.mem ((c.tc : Thread Cert.Update.nD Cert.Update.τ).loc Cert.Update.main_arg4) = m ((c.tc : Thread Cert.Update.nD Cert.Update.τ).loc Cert.Update.main_arg4)
      ∧ r.2.mem ((c.tc : Thread Cert.Update.nD Cert.Update.τ).loc Cert.Update.main_arg5) = m ((c.tc : Thread Cert.Update.nD Cert.Update.τ).loc Cert.Update.main_arg5)
      ∧ r.2.mem ((c.tc : Thread Cert.Update.nD Cert.Update.τ).loc Cert.Update.main_arg6) = m ((c.tc : Thread Cert.Update.nD Cert.Update.τ).loc Cert.Update.main_arg6)
      ∧ r.2.mem ((c.tc : Thread Cert.Update.nD Cert.Update.τ).loc Cert.Update.main_arg7) = m ((c.tc : Thread Cert.Update.nD Cert.Update.τ).loc Cert.Update.main_arg7))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
      ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
      ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
      ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
      ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7))
      ∧ r.2.sem = fun _ => 0)

def quiescent_UpdateIdeal_pre_state_in_range [hUpdateIdeal : Cert.UpdateIdeal.Facts] [hPre_state_in_range : Cert.Pre_state_in_range.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal_state_in_range m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
      ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
      ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
      ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
      ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_state_in_range [hReferenceIdeal : Cert.ReferenceIdeal.Facts] [hPre_state_in_range : Cert.Pre_state_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_state_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0))
      ∧ r.2.sem = fun _ => 0)

def preserves_Update_UpdateIdeal : Prop :=
  IdealRules.named_const.Statement Cert.UpdateIdeal.κ "log_beta1" .f32 0xBDD7C741#32 ((Real.log (9 / 10) : ℝ) : EReal)
  ∧ IdealRules.named_const.Statement Cert.UpdateIdeal.κ "log_beta2" .f32 0xBA832338#32 ((Real.log (999 / 1000) : ℝ) : EReal)
  ∧ IdealRules.named_const.Statement Cert.UpdateIdeal.κ "one_minus_beta1" .f32 0x3DCCCCCD#32 ((1 / 10 : ℝ) : EReal)
  ∧ IdealRules.named_const.Statement Cert.UpdateIdeal.κ "root_one_minus_beta2" .f32 0x3D0186E2#32 ((Real.sqrt (1 / 1000) : ℝ) : EReal)
  ∧ IdealRules.named_const.Statement Cert.UpdateIdeal.κ "neg_eps_over_lr" .f32 0xB727C5AC#32 ((-1 / 100000 : ℝ) : EReal)
  ∧ IdealRules.named_const.Statement Cert.UpdateIdeal.κ "beta1" .f32 0x3F666666#32 ((9 / 10 : ℝ) : EReal)
  ∧ IdealRules.named_const.Statement Cert.UpdateIdeal.κ "lr_wd" .f32 0x3727C5AC#32 ((1 / 100000 : ℝ) : EReal)

def algebraic_UpdateIdeal_ReferenceIdeal_on_claimed_pre_state_in_range [hUpdateIdeal : Cert.UpdateIdeal.Facts] [hReferenceIdeal : Cert.ReferenceIdeal.Facts] [hPre_state_in_range : Cert.Pre_state_in_range.Facts] [hOn_claimed : Cert.On_claimed.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_UpdateIdeal_state_in_range m →
    (∀ c : Dev Cert.UpdateIdeal.nD,
      m' ((c.tc : Thread Cert.ReferenceIdeal.nD Cert.ReferenceIdeal.τ).loc Cert.ReferenceIdeal.main_arg0) = m ((c.tc : Thread Cert.UpdateIdeal.nD Cert.UpdateIdeal.τ).loc Cert.UpdateIdeal.main_arg0)
      ∧ m' ((c.tc : Thread Cert.ReferenceIdeal.nD Cert.ReferenceIdeal.τ).loc Cert.ReferenceIdeal.main_arg1) = m ((c.tc : Thread Cert.UpdateIdeal.nD Cert.UpdateIdeal.τ).loc Cert.UpdateIdeal.main_arg1)
      ∧ m' ((c.tc : Thread Cert.ReferenceIdeal.nD Cert.ReferenceIdeal.τ).loc Cert.ReferenceIdeal.main_arg2) = m ((c.tc : Thread Cert.UpdateIdeal.nD Cert.UpdateIdeal.τ).loc Cert.UpdateIdeal.main_arg2)
      ∧ m' ((c.tc : Thread Cert.ReferenceIdeal.nD Cert.ReferenceIdeal.τ).loc Cert.ReferenceIdeal.main_arg3) = m ((c.tc : Thread Cert.UpdateIdeal.nD Cert.UpdateIdeal.τ).loc Cert.UpdateIdeal.main_arg3)
      ∧ m' ((c.tc : Thread Cert.ReferenceIdeal.nD Cert.ReferenceIdeal.τ).loc Cert.ReferenceIdeal.main_arg4) = m ((c.tc : Thread Cert.UpdateIdeal.nD Cert.UpdateIdeal.τ).loc Cert.UpdateIdeal.main_arg4)
      ∧ m' ((c.tc : Thread Cert.ReferenceIdeal.nD Cert.ReferenceIdeal.τ).loc Cert.ReferenceIdeal.main_arg5) = m ((c.tc : Thread Cert.UpdateIdeal.nD Cert.UpdateIdeal.τ).loc Cert.UpdateIdeal.main_arg5)
      ∧ m' ((c.tc : Thread Cert.ReferenceIdeal.nD Cert.ReferenceIdeal.τ).loc Cert.ReferenceIdeal.main_arg6) = m ((c.tc : Thread Cert.UpdateIdeal.nD Cert.UpdateIdeal.τ).loc Cert.UpdateIdeal.main_arg6)
      ∧ m' ((c.tc : Thread Cert.ReferenceIdeal.nD Cert.ReferenceIdeal.τ).loc Cert.ReferenceIdeal.main_arg7) = m ((c.tc : Thread Cert.UpdateIdeal.nD Cert.UpdateIdeal.τ).loc Cert.UpdateIdeal.main_arg7)) →
    ∃ (v0 : (c : Dev Cert.UpdateIdeal.nD) → Buf (Elt Ideal) ((c.tc : Thread Cert.UpdateIdeal.nD Cert.UpdateIdeal.τ).loc Cert.UpdateIdeal.main_v5_0)) (v1 : (c : Dev Cert.UpdateIdeal.nD) → Buf (Elt Ideal) ((c.tc : Thread Cert.UpdateIdeal.nD Cert.UpdateIdeal.τ).loc Cert.UpdateIdeal.main_v5_1)) (v2 : (c : Dev Cert.UpdateIdeal.nD) → Buf (Elt Ideal) ((c.tc : Thread Cert.UpdateIdeal.nD Cert.UpdateIdeal.τ).loc Cert.UpdateIdeal.main_v5_2)) (v3 : (c : Dev Cert.UpdateIdeal.nD) → Buf (Elt Ideal) ((c.tc : Thread Cert.UpdateIdeal.nD Cert.UpdateIdeal.τ).loc Cert.UpdateIdeal.main_v5_3)) (v4 : (c : Dev Cert.UpdateIdeal.nD) → Buf (Elt Ideal) ((c.tc : Thread Cert.UpdateIdeal.nD Cert.UpdateIdeal.τ).loc Cert.UpdateIdeal.main_v5_4)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          (∀ i : (⟨2, ![37376, 2048]⟩ : Shape).Idx, (Cert.On_claimed.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4)) (m ((c.tc : Thread Cert.UpdateIdeal.nD Cert.UpdateIdeal.τ).loc Cert.UpdateIdeal.main_arg5)) (m ((c.tc : Thread Cert.UpdateIdeal.nD Cert.UpdateIdeal.τ).loc Cert.UpdateIdeal.main_arg6)) (m ((c.tc : Thread Cert.UpdateIdeal.nD Cert.UpdateIdeal.τ).loc Cert.UpdateIdeal.main_arg7))).1 i = 1#1 → r.2.mem ((c.tc : Thread Cert.UpdateIdeal.nD Cert.UpdateIdeal.τ).loc Cert.UpdateIdeal.main_v5_0) i = v0 c i)
          ∧ (∀ i : (⟨2, ![37376, 2048]⟩ : Shape).Idx, (Cert.On_claimed.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4)) (m ((c.tc : Thread Cert.UpdateIdeal.nD Cert.UpdateIdeal.τ).loc Cert.UpdateIdeal.main_arg5)) (m ((c.tc : Thread Cert.UpdateIdeal.nD Cert.UpdateIdeal.τ).loc Cert.UpdateIdeal.main_arg6)) (m ((c.tc : Thread Cert.UpdateIdeal.nD Cert.UpdateIdeal.τ).loc Cert.UpdateIdeal.main_arg7))).2.1 i = 1#1 → r.2.mem ((c.tc : Thread Cert.UpdateIdeal.nD Cert.UpdateIdeal.τ).loc Cert.UpdateIdeal.main_v5_1) i = v1 c i)
          ∧ (∀ i : (⟨2, ![16, 37376]⟩ : Shape).Idx, (Cert.On_claimed.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4)) (m ((c.tc : Thread Cert.UpdateIdeal.nD Cert.UpdateIdeal.τ).loc Cert.UpdateIdeal.main_arg5)) (m ((c.tc : Thread Cert.UpdateIdeal.nD Cert.UpdateIdeal.τ).loc Cert.UpdateIdeal.main_arg6)) (m ((c.tc : Thread Cert.UpdateIdeal.nD Cert.UpdateIdeal.τ).loc Cert.UpdateIdeal.main_arg7))).2.2.1 i = 1#1 → r.2.mem ((c.tc : Thread Cert.UpdateIdeal.nD Cert.UpdateIdeal.τ).loc Cert.UpdateIdeal.main_v5_2) i = v2 c i)
          ∧ (∀ i : (⟨2, ![37376, 2048]⟩ : Shape).Idx, (Cert.On_claimed.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4)) (m ((c.tc : Thread Cert.UpdateIdeal.nD Cert.UpdateIdeal.τ).loc Cert.UpdateIdeal.main_arg5)) (m ((c.tc : Thread Cert.UpdateIdeal.nD Cert.UpdateIdeal.τ).loc Cert.UpdateIdeal.main_arg6)) (m ((c.tc : Thread Cert.UpdateIdeal.nD Cert.UpdateIdeal.τ).loc Cert.UpdateIdeal.main_arg7))).2.2.2.1 i = 1#1 → r.2.mem ((c.tc : Thread Cert.UpdateIdeal.nD Cert.UpdateIdeal.τ).loc Cert.UpdateIdeal.main_v5_3) i = v3 c i)
          ∧ (∀ i : (⟨2, ![16, 37376]⟩ : Shape).Idx, (Cert.On_claimed.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4)) (m ((c.tc : Thread Cert.UpdateIdeal.nD Cert.UpdateIdeal.τ).loc Cert.UpdateIdeal.main_arg5)) (m ((c.tc : Thread Cert.UpdateIdeal.nD Cert.UpdateIdeal.τ).loc Cert.UpdateIdeal.main_arg6)) (m ((c.tc : Thread Cert.UpdateIdeal.nD Cert.UpdateIdeal.τ).loc Cert.UpdateIdeal.main_arg7))).2.2.2.2 i = 1#1 → r.2.mem ((c.tc : Thread Cert.UpdateIdeal.nD Cert.UpdateIdeal.τ).loc Cert.UpdateIdeal.main_v5_4) i = v4 c i)
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
          ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
          ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
          ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
          ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![37376, 2048]⟩ : Shape).Idx, (Cert.On_claimed.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4)) (m ((c.tc : Thread Cert.UpdateIdeal.nD Cert.UpdateIdeal.τ).loc Cert.UpdateIdeal.main_arg5)) (m ((c.tc : Thread Cert.UpdateIdeal.nD Cert.UpdateIdeal.τ).loc Cert.UpdateIdeal.main_arg6)) (m ((c.tc : Thread Cert.UpdateIdeal.nD Cert.UpdateIdeal.τ).loc Cert.UpdateIdeal.main_arg7))).1 i = 1#1 → r.2.mem ((c.tc : Thread Cert.ReferenceIdeal.nD Cert.ReferenceIdeal.τ).loc Cert.ReferenceIdeal.main_v11_0) i = v0 c i)
          ∧ (∀ i : (⟨2, ![37376, 2048]⟩ : Shape).Idx, (Cert.On_claimed.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4)) (m ((c.tc : Thread Cert.UpdateIdeal.nD Cert.UpdateIdeal.τ).loc Cert.UpdateIdeal.main_arg5)) (m ((c.tc : Thread Cert.UpdateIdeal.nD Cert.UpdateIdeal.τ).loc Cert.UpdateIdeal.main_arg6)) (m ((c.tc : Thread Cert.UpdateIdeal.nD Cert.UpdateIdeal.τ).loc Cert.UpdateIdeal.main_arg7))).2.1 i = 1#1 → r.2.mem ((c.tc : Thread Cert.ReferenceIdeal.nD Cert.ReferenceIdeal.τ).loc Cert.ReferenceIdeal.main_v11_1) i = v1 c i)
          ∧ (∀ i : (⟨2, ![16, 37376]⟩ : Shape).Idx, (Cert.On_claimed.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4)) (m ((c.tc : Thread Cert.UpdateIdeal.nD Cert.UpdateIdeal.τ).loc Cert.UpdateIdeal.main_arg5)) (m ((c.tc : Thread Cert.UpdateIdeal.nD Cert.UpdateIdeal.τ).loc Cert.UpdateIdeal.main_arg6)) (m ((c.tc : Thread Cert.UpdateIdeal.nD Cert.UpdateIdeal.τ).loc Cert.UpdateIdeal.main_arg7))).2.2.1 i = 1#1 → r.2.mem ((c.tc : Thread Cert.ReferenceIdeal.nD Cert.ReferenceIdeal.τ).loc Cert.ReferenceIdeal.main_v11_2) i = v2 c i)
          ∧ (∀ i : (⟨2, ![37376, 2048]⟩ : Shape).Idx, (Cert.On_claimed.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4)) (m ((c.tc : Thread Cert.UpdateIdeal.nD Cert.UpdateIdeal.τ).loc Cert.UpdateIdeal.main_arg5)) (m ((c.tc : Thread Cert.UpdateIdeal.nD Cert.UpdateIdeal.τ).loc Cert.UpdateIdeal.main_arg6)) (m ((c.tc : Thread Cert.UpdateIdeal.nD Cert.UpdateIdeal.τ).loc Cert.UpdateIdeal.main_arg7))).2.2.2.1 i = 1#1 → r.2.mem ((c.tc : Thread Cert.ReferenceIdeal.nD Cert.ReferenceIdeal.τ).loc Cert.ReferenceIdeal.main_v11_3) i = v3 c i)
          ∧ (∀ i : (⟨2, ![16, 37376]⟩ : Shape).Idx, (Cert.On_claimed.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4)) (m ((c.tc : Thread Cert.UpdateIdeal.nD Cert.UpdateIdeal.τ).loc Cert.UpdateIdeal.main_arg5)) (m ((c.tc : Thread Cert.UpdateIdeal.nD Cert.UpdateIdeal.τ).loc Cert.UpdateIdeal.main_arg6)) (m ((c.tc : Thread Cert.UpdateIdeal.nD Cert.UpdateIdeal.τ).loc Cert.UpdateIdeal.main_arg7))).2.2.2.2 i = 1#1 → r.2.mem ((c.tc : Thread Cert.ReferenceIdeal.nD Cert.ReferenceIdeal.τ).loc Cert.ReferenceIdeal.main_v11_4) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v3) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0))

def Claim : Prop :=
  ∃ (hUpdate : Cert.Update.Facts) (hUpdateIdeal : Cert.UpdateIdeal.Facts) (hReferenceIdeal : Cert.ReferenceIdeal.Facts) (hNorm : Cert.Norm.Facts) (hNormIdeal : Cert.NormIdeal.Facts) (hNormRefIdeal : Cert.NormRefIdeal.Facts) (hPre_state_in_range : Cert.Pre_state_in_range.Facts) (hOn_claimed : Cert.On_claimed.Facts),
    quiescent_Update (hUpdate := hUpdate)
    ∧ quiescent_UpdateIdeal (hUpdateIdeal := hUpdateIdeal)
    ∧ quiescent_UpdateIdeal_pre_state_in_range (hUpdateIdeal := hUpdateIdeal) (hPre_state_in_range := hPre_state_in_range)
    ∧ quiescent_ReferenceIdeal (hReferenceIdeal := hReferenceIdeal)
    ∧ quiescent_ReferenceIdeal_pre_state_in_range (hReferenceIdeal := hReferenceIdeal) (hPre_state_in_range := hPre_state_in_range)
    ∧ quiescent_Norm (hNorm := hNorm)
    ∧ quiescent_NormIdeal (hNormIdeal := hNormIdeal)
    ∧ quiescent_NormRefIdeal (hNormRefIdeal := hNormRefIdeal)
    ∧ preserves_Update_UpdateIdeal
    ∧ algebraic_UpdateIdeal_ReferenceIdeal_on_claimed_pre_state_in_range (hUpdateIdeal := hUpdateIdeal) (hReferenceIdeal := hReferenceIdeal) (hPre_state_in_range := hPre_state_in_range) (hOn_claimed := hOn_claimed)
    ∧ preserves_Norm_NormIdeal
    ∧ algebraic_NormIdeal_NormRefIdeal (hNormIdeal := hNormIdeal) (hNormRefIdeal := hNormRefIdeal)
-- ==== On_claimed.lean ====
abbrev S37376x2048 : Shape := ⟨2, ![37376, 2048]⟩
abbrev S37376x16 : Shape := ⟨2, ![37376, 16]⟩
abbrev S_ : Shape := ⟨0, ![]⟩
abbrev S8x128 : Shape := ⟨2, ![8, 128]⟩
abbrev S1x1 : Shape := ⟨2, ![1, 1]⟩
abbrev S37376x16x1 : Shape := ⟨3, ![37376, 16, 1]⟩
abbrev S37376x16x128 : Shape := ⟨3, ![37376, 16, 128]⟩
abbrev S16x37376 : Shape := ⟨2, ![16, 37376]⟩

class Facts : Prop where
  slices_S8x128_S1x1_0_0 : S8x128.Slices ![0, 0] S1x1
  shapeCasts_S1x1_S_ : S1x1.ShapeCasts S_
  bitsLt_bf16_f32 : FTy.bits .bf16 < FTy.bits .f32
  bcast_S_S37376x2048 : S_.BroadcastsInDim S37376x2048 (![] : Fin 0 → Fin S37376x2048.rank)
  natLt_8_32 : 8 < 32
  bcast_S37376x16_S37376x16x1_0_1 : S37376x16.BroadcastsInDim S37376x16x1 (![0, 1] : Fin 2 → Fin S37376x16x1.rank)
  bcast_S37376x16x1_S37376x16x128_0_1_2 : S37376x16x1.BroadcastsInDim S37376x16x128 (![0, 1, 2] : Fin 3 → Fin S37376x16x128.rank)
  shapeCasts_S37376x16x128_S37376x2048 : S37376x16x128.ShapeCasts S37376x2048
  shapeCasts_S37376x2048_S37376x16x128 : S37376x2048.ShapeCasts S37376x16x128
  reducesTo_S37376x16x128_S37376x16_d2 : S37376x16x128.ReducesTo [2] S37376x16
  h_S_ : 0 < S_.numel
  bcast_S_S37376x16 : S_.BroadcastsInDim S37376x16 (![] : Fin 0 → Fin S37376x16.rank)
  transposes_S37376x16_S16x37376_1_0 : S37376x16.Transposes [1, 0] S16x37376

variable [Facts]

def fn_where {F : FTy → Type} [FloatOps F] (arg0 : IVec S37376x2048 1) (arg1 : FVec F S37376x2048 .f32) (arg2 : FVec F S37376x2048 .f32) : FVec F S37376x2048 .f32 :=
  let v0 : FVec F S37376x2048 .f32 := select arg0 arg1 arg2
  v0

def fn_part5 {F : FTy → Type} [FloatOps F] (main_v64 : IVec S37376x16 1) (main_v89 : IVec S37376x16 1) (main_v90 : IVec S37376x2048 1) (main_v93 : IVec S37376x2048 1) : IVec S37376x2048 1 × IVec S37376x2048 1 × IVec S16x37376 1 × IVec S37376x2048 1 × IVec S16x37376 1 :=
  let main_v94 : IVec S16x37376 1 := (transpose S16x37376 [1, 0] · transposes_S37376x16_S16x37376_1_0) main_v64
  let main_v95 : IVec S37376x16x1 1 := broadcastInDim S37376x16x1 ![0, 1] bcast_S37376x16_S37376x16x1_0_1 main_v89
  let main_v96 : IVec S37376x16x128 1 := broadcastInDim S37376x16x128 ![0, 1, 2] bcast_S37376x16x1_S37376x16x128_0_1_2 main_v95
  let main_v97 : IVec S37376x2048 1 := shapeCast S37376x2048 main_v96 shapeCasts_S37376x16x128_S37376x2048
  let main_v98 : IVec S16x37376 1 := (transpose S16x37376 [1, 0] · transposes_S37376x16_S16x37376_1_0) main_v89
  (main_v90, main_v93, main_v94, main_v97, main_v98)

def fn_part4 {F : FTy → Type} [FloatOps F] (main_v64 : IVec S37376x16 1) (main_v73 : FVec F S37376x16 .f32) (main_cst_19 : FVec F S_ .f32) : IVec S37376x2048 1 × IVec S37376x2048 1 × IVec S16x37376 1 × IVec S37376x2048 1 × IVec S16x37376 1 :=
  let main_v74 : FVec F S37376x16 .f32 := broadcastInDim S37376x16 ![] bcast_S_S37376x16 main_cst_19
  let main_v75 : FVec F S37376x16 .f32 := Host.log main_v74
  let main_cst_20 : FVec F S_ .f32 := constant S_ .f32 0x37920001#32
  let main_v76 : FVec F S37376x16 .f32 := broadcastInDim S37376x16 ![] bcast_S_S37376x16 main_cst_20
  let main_v77 : FVec F S37376x16 .f32 := mulf main_v73 main_v76
  let main_v78 : FVec F S37376x16 .f32 := Host.log main_v77
  let main_v79 : FVec F S37376x16 .f32 := Host.divf main_v78 main_v75
  let main_v80 : FVec F S37376x16 .f32 := Host.floor main_v79
  let main_cst_21 : FVec F S_ .f32 := constant S_ .f32 0x47600000#32
  let main_v81 : FVec F S37376x16 .f32 := broadcastInDim S37376x16 ![] bcast_S_S37376x16 main_cst_21
  let main_v82 : FVec F S37376x16 .f32 := Host.divf main_v73 main_v81
  let main_v83 : FVec F S37376x16 .f32 := Host.log main_v82
  let main_v84 : FVec F S37376x16 .f32 := Host.divf main_v83 main_v75
  let main_v85 : FVec F S37376x16 .f32 := Host.floor main_v84
  let main_v86 : IVec S37376x16 1 := cmpf .oeq main_v80 main_v85
  let main_cst_22 : FVec F S_ .f32 := constant S_ .f32 0x08600000#32
  let main_v87 : FVec F S37376x16 .f32 := broadcastInDim S37376x16 ![] bcast_S_S37376x16 main_cst_22
  let main_v88 : IVec S37376x16 1 := cmpf .olt main_v73 main_v87
  let main_v89 : IVec S37376x16 1 := ori main_v88 main_v86
  let main_c_23 : IVec S_ 1 := constantI S_ 1 1#1
  let main_v90 : IVec S37376x2048 1 := broadcastInDim S37376x2048 ![] bcast_S_S37376x2048 main_c_23
  let main_v91 : IVec S37376x16x1 1 := broadcastInDim S37376x16x1 ![0, 1] bcast_S37376x16_S37376x16x1_0_1 main_v64
  let main_v92 : IVec S37376x16x128 1 := broadcastInDim S37376x16x128 ![0, 1, 2] bcast_S37376x16x1_S37376x16x128_0_1_2 main_v91
  let main_v93 : IVec S37376x2048 1 := shapeCast S37376x2048 main_v92 shapeCasts_S37376x16x128_S37376x2048
  fn_part5 (F := F) main_v64 main_v89 main_v90 main_v93

def fn_part3 {F : FTy → Type} [FloatOps F] (main_v8 : FVec F S37376x2048 .f32) (main_v40 : FVec F S37376x2048 .f32) (main_v48 : FVec F S37376x16 .f32) (main_v50 : FVec F S37376x16 .f32) (main_v55 : FVec F S37376x16 .f32) : IVec S37376x2048 1 × IVec S37376x2048 1 × IVec S16x37376 1 × IVec S37376x2048 1 × IVec S16x37376 1 :=
  let main_cst_14 : FVec F S_ .f32 := constant S_ .f32 0x43E00000#32
  let main_v56 : FVec F S37376x16 .f32 := broadcastInDim S37376x16 ![] bcast_S_S37376x16 main_cst_14
  let main_v57 : FVec F S37376x16 .f32 := Host.divf main_v48 main_v56
  let main_v58 : FVec F S37376x16 .f32 := Host.log main_v57
  let main_v59 : FVec F S37376x16 .f32 := Host.divf main_v58 main_v50
  let main_v60 : FVec F S37376x16 .f32 := Host.floor main_v59
  let main_v61 : IVec S37376x16 1 := cmpf .oeq main_v55 main_v60
  let main_cst_15 : FVec F S_ .f32 := constant S_ .f32 0x04E00000#32
  let main_v62 : FVec F S37376x16 .f32 := broadcastInDim S37376x16 ![] bcast_S_S37376x16 main_cst_15
  let main_v63 : IVec S37376x16 1 := cmpf .olt main_v48 main_v62
  let main_v64 : IVec S37376x16 1 := ori main_v63 main_v61
  let main_cst_16 : FVec F S_ .f32 := constant S_ .f32 0x3F7FBE77#32
  let main_v65 : FVec F S37376x2048 .f32 := broadcastInDim S37376x2048 ![] bcast_S_S37376x2048 main_cst_16
  let main_v66 : FVec F S37376x2048 .f32 := mulf main_v65 main_v40
  let main_v67 : FVec F S37376x2048 .f32 := mulf main_v8 main_v8
  let main_cst_17 : FVec F S_ .f32 := constant S_ .f32 0x447A0000#32
  let main_v68 : FVec F S37376x2048 .f32 := broadcastInDim S37376x2048 ![] bcast_S_S37376x2048 main_cst_17
  let main_v69 : FVec F S37376x2048 .f32 := Host.divf main_v67 main_v68
  let main_v70 : FVec F S37376x2048 .f32 := addf main_v66 main_v69
  let main_v71 : FVec F S37376x16x128 .f32 := shapeCast S37376x16x128 main_v70 shapeCasts_S37376x2048_S37376x16x128
  let main_v72 : FVec F S37376x16x128 .f32 := Host.absf main_v71
  let main_cst_18 : FVec F S_ .f32 := constant S_ .f32 0xFF800000#32
  let main_v73 : FVec F S37376x16 .f32 := (fun x v => Host.reduce FloatOps.maximumf x v reducesTo_S37376x16x128_S37376x16_d2 h_S_) main_v72 main_cst_18
  let main_cst_19 : FVec F S_ .f32 := constant S_ .f32 0x40000000#32
  fn_part4 (F := F) main_v64 main_v73 main_cst_19

def fn_part2 {F : FTy → Type} [FloatOps F] (main_arg5 : FVec F S37376x16 .f32) (main_v8 : FVec F S37376x2048 .f32) (main_v24 : FVec F S37376x2048 .f32) (main_v36 : FVec F S37376x2048 .f32) : IVec S37376x2048 1 × IVec S37376x2048 1 × IVec S16x37376 1 × IVec S37376x2048 1 × IVec S16x37376 1 :=
  let main_v37 : FVec F S37376x16x1 .f32 := broadcastInDim S37376x16x1 ![0, 1] bcast_S37376x16_S37376x16x1_0_1 main_arg5
  let main_v38 : FVec F S37376x16x128 .f32 := broadcastInDim S37376x16x128 ![0, 1, 2] bcast_S37376x16x1_S37376x16x128_0_1_2 main_v37
  let main_v39 : FVec F S37376x2048 .f32 := shapeCast S37376x2048 main_v38 shapeCasts_S37376x16x128_S37376x2048
  let main_v40 : FVec F S37376x2048 .f32 := mulf main_v36 main_v39
  let main_cst_9 : FVec F S_ .f32 := constant S_ .f32 0x41100000#32
  let main_v41 : FVec F S37376x2048 .f32 := broadcastInDim S37376x2048 ![] bcast_S_S37376x2048 main_cst_9
  let main_v42 : FVec F S37376x2048 .f32 := mulf main_v41 main_v24
  let main_v43 : FVec F S37376x2048 .f32 := addf main_v42 main_v8
  let main_cst_10 : FVec F S_ .f32 := constant S_ .f32 0x41200000#32
  let main_v44 : FVec F S37376x2048 .f32 := broadcastInDim S37376x2048 ![] bcast_S_S37376x2048 main_cst_10
  let main_v45 : FVec F S37376x2048 .f32 := Host.divf main_v43 main_v44
  let main_v46 : FVec F S37376x16x128 .f32 := shapeCast S37376x16x128 main_v45 shapeCasts_S37376x2048_S37376x16x128
  let main_v47 : FVec F S37376x16x128 .f32 := Host.absf main_v46
  let main_cst_11 : FVec F S_ .f32 := constant S_ .f32 0xFF800000#32
  let main_v48 : FVec F S37376x16 .f32 := (fun x v => Host.reduce FloatOps.maximumf x v reducesTo_S37376x16x128_S37376x16_d2 h_S_) main_v47 main_cst_11
  let main_cst_12 : FVec F S_ .f32 := constant S_ .f32 0x40000000#32
  let main_v49 : FVec F S37376x16 .f32 := broadcastInDim S37376x16 ![] bcast_S_S37376x16 main_cst_12
  let main_v50 : FVec F S37376x16 .f32 := Host.log main_v49
  let main_cst_13 : FVec F S_ .f32 := constant S_ .f32 0x3B120001#32
  let main_v51 : FVec F S37376x16 .f32 := broadcastInDim S37376x16 ![] bcast_S_S37376x16 main_cst_13
  let main_v52 : FVec F S37376x16 .f32 := mulf main_v48 main_v51
  let main_v53 : FVec F S37376x16 .f32 := Host.log main_v52
  let main_v54 : FVec F S37376x16 .f32 := Host.divf main_v53 main_v50
  let main_v55 : FVec F S37376x16 .f32 := Host.floor main_v54
  fn_part3 (F := F) main_v8 main_v40 main_v48 main_v50 main_v55

def fn_part1 {F : FTy → Type} [FloatOps F] (main_arg2 : IVec S37376x2048 8) (main_arg3 : FVec F S37376x16 .f32) (main_arg4 : IVec S37376x2048 8) (main_arg5 : FVec F S37376x16 .f32) (main_v8 : FVec F S37376x2048 .f32) (main_v16 : FVec F S37376x2048 .f32) (main_c_4 : IVec S_ 8) : IVec S37376x2048 1 × IVec S37376x2048 1 × IVec S16x37376 1 × IVec S37376x2048 1 × IVec S16x37376 1 :=
  let main_v17 : IVec S37376x2048 8 := broadcastInDim S37376x2048 ![] bcast_S_S37376x2048 main_c_4
  let main_v18 : IVec S37376x2048 1 := cmpi .slt main_arg2 main_v17
  let main_v19 : FVec F S37376x2048 .f32 := Host.negf main_v16
  let main_v20 : FVec F S37376x2048 .f32 := fn_where (F := F) main_v18 main_v19 main_v16
  let main_v21 : FVec F S37376x16x1 .f32 := broadcastInDim S37376x16x1 ![0, 1] bcast_S37376x16_S37376x16x1_0_1 main_arg3
  let main_v22 : FVec F S37376x16x128 .f32 := broadcastInDim S37376x16x128 ![0, 1, 2] bcast_S37376x16x1_S37376x16x128_0_1_2 main_v21
  let main_v23 : FVec F S37376x2048 .f32 := shapeCast S37376x2048 main_v22 shapeCasts_S37376x16x128_S37376x2048
  let main_v24 : FVec F S37376x2048 .f32 := mulf main_v20 main_v23
  let main_v25 : IVec S37376x2048 32 := (extsi 32 · natLt_8_32) main_arg4
  let main_c_5 : IVec S_ 32 := constantI S_ 32 127#32
  let main_v26 : IVec S37376x2048 32 := broadcastInDim S37376x2048 ![] bcast_S_S37376x2048 main_c_5
  let main_v27 : IVec S37376x2048 32 := andi main_v25 main_v26
  let main_c_6 : IVec S_ 32 := constantI S_ 32 21#32
  let main_v28 : IVec S37376x2048 32 := broadcastInDim S37376x2048 ![] bcast_S_S37376x2048 main_c_6
  let main_v29 : IVec S37376x2048 32 := Host.shli main_v27 main_v28
  let main_v30 : FVec F S37376x2048 .f32 := bitcastToFloat .f32 main_v29
  let main_cst_7 : FVec F S_ .f32 := constant S_ .f32 0x77800000#32
  let main_v31 : FVec F S37376x2048 .f32 := broadcastInDim S37376x2048 ![] bcast_S_S37376x2048 main_cst_7
  let main_v32 : FVec F S37376x2048 .f32 := mulf main_v30 main_v31
  let main_c_8 : IVec S_ 8 := constantI S_ 8 0#8
  let main_v33 : IVec S37376x2048 8 := broadcastInDim S37376x2048 ![] bcast_S_S37376x2048 main_c_8
  let main_v34 : IVec S37376x2048 1 := cmpi .slt main_arg4 main_v33
  let main_v35 : FVec F S37376x2048 .f32 := Host.negf main_v32
  let main_v36 : FVec F S37376x2048 .f32 := fn_where (F := F) main_v34 main_v35 main_v32
  fn_part2 (F := F) main_arg5 main_v8 main_v24 main_v36

def fn {F : FTy → Type} [FloatOps F] (main_arg0 : FVec F S37376x2048 .f32) (main_arg1 : FVec F S37376x2048 .bf16) (main_arg2 : IVec S37376x2048 8) (main_arg3 : FVec F S37376x16 .f32) (main_arg4 : IVec S37376x2048 8) (main_arg5 : FVec F S37376x16 .f32) (main_arg6 : IVec S_ 32) (main_arg7 : FVec F S8x128 .f32) : IVec S37376x2048 1 × IVec S37376x2048 1 × IVec S16x37376 1 × IVec S37376x2048 1 × IVec S16x37376 1 :=
  let main_v0 : FVec F S1x1 .f32 := (extractStridedSlice S1x1 ![0, 0] · slices_S8x128_S1x1_0_0) main_arg7
  let main_v1 : FVec F S_ .f32 := shapeCast S_ main_v0 shapeCasts_S1x1_S_
  let main_v2 : FVec F S_ .f32 := Host.sqrt main_v1
  let main_cst : FVec F S_ .f32 := constant S_ .f32 0x358637BD#32
  let main_v3 : FVec F S_ .f32 := addf main_v2 main_cst
  let main_cst_0 : FVec F S_ .f32 := constant S_ .f32 0x3F800000#32
  let main_v4 : FVec F S_ .f32 := Host.divf main_cst_0 main_v3
  let main_cst_1 : FVec F S_ .f32 := constant S_ .f32 0x3F800000#32
  let main_v5 : FVec F S_ .f32 := minimumf main_cst_1 main_v4
  let main_v6 : FVec F S37376x2048 .f32 := (extf .f32 · bitsLt_bf16_f32) main_arg1
  let main_v7 : FVec F S37376x2048 .f32 := broadcastInDim S37376x2048 ![] bcast_S_S37376x2048 main_v5
  let main_v8 : FVec F S37376x2048 .f32 := mulf main_v6 main_v7
  let main_v9 : IVec S37376x2048 32 := (extsi 32 · natLt_8_32) main_arg2
  let main_c : IVec S_ 32 := constantI S_ 32 127#32
  let main_v10 : IVec S37376x2048 32 := broadcastInDim S37376x2048 ![] bcast_S_S37376x2048 main_c
  let main_v11 : IVec S37376x2048 32 := andi main_v9 main_v10
  let main_c_2 : IVec S_ 32 := constantI S_ 32 20#32
  let main_v12 : IVec S37376x2048 32 := broadcastInDim S37376x2048 ![] bcast_S_S37376x2048 main_c_2
  let main_v13 : IVec S37376x2048 32 := Host.shli main_v11 main_v12
  let main_v14 : FVec F S37376x2048 .f32 := bitcastToFloat .f32 main_v13
  let main_cst_3 : FVec F S_ .f32 := constant S_ .f32 0x7B800000#32
  let main_v15 : FVec F S37376x2048 .f32 := broadcastInDim S37376x2048 ![] bcast_S_S37376x2048 main_cst_3
  let main_v16 : FVec F S37376x2048 .f32 := mulf main_v14 main_v15
  let main_c_4 : IVec S_ 8 := constantI S_ 8 0#8
  fn_part1 (F := F) main_arg2 main_arg3 main_arg4 main_arg5 main_v8 main_v16 main_c_4
-- ==== Pre_state_in_range.lean ====
abbrev S37376x2048 : Shape := ⟨2, ![37376, 2048]⟩
abbrev S37376x16 : Shape := ⟨2, ![37376, 16]⟩
abbrev S_ : Shape := ⟨0, ![]⟩
abbrev S8x128 : Shape := ⟨2, ![8, 128]⟩
abbrev S1x1 : Shape := ⟨2, ![1, 1]⟩

class Facts : Prop where
  bitsLt_bf16_f32 : FTy.bits .bf16 < FTy.bits .f32
  slices_S8x128_S1x1_0_0 : S8x128.Slices ![0, 0] S1x1
  shapeCasts_S1x1_S_ : S1x1.ShapeCasts S_
  bcast_S_S8x128 : S_.BroadcastsInDim S8x128 (![] : Fin 0 → Fin S8x128.rank)
  reducesTo_S8x128_S_d0_1 : S8x128.ReducesTo [0, 1] S_
  h_S_ : 0 < S_.numel
  bcast_S_S37376x2048 : S_.BroadcastsInDim S37376x2048 (![] : Fin 0 → Fin S37376x2048.rank)
  reducesTo_S37376x2048_S_d0_1 : S37376x2048.ReducesTo [0, 1] S_
  natLt_8_32 : 8 < 32
  bcast_S_S37376x16 : S_.BroadcastsInDim S37376x16 (![] : Fin 0 → Fin S37376x16.rank)
  reducesTo_S37376x16_S_d0_1 : S37376x16.ReducesTo [0, 1] S_

variable [Facts]

def fn_part3 {F : FTy → Type} [FloatOps F] (main_arg5 : FVec F S37376x16 .f32) (main_v44 : IVec S_ 1) (main_v51 : IVec S37376x2048 1) (main_c_17 : IVec S_ 1) : IVec S_ 1 :=
  let main_v52 : IVec S_ 1 := (fun x v => Host.reduce IntOp.andi x v reducesTo_S37376x2048_S_d0_1 h_S_) main_v51 main_c_17
  let main_v53 : IVec S_ 1 := andi main_v44 main_v52
  let main_cst_18 : FVec F S_ .f32 := constant S_ .f32 0x00000000#32
  let main_v54 : FVec F S37376x16 .f32 := broadcastInDim S37376x16 ![] bcast_S_S37376x16 main_cst_18
  let main_v55 : IVec S37376x16 1 := cmpf .oeq main_arg5 main_v54
  let main_cst_19 : FVec F S_ .f32 := constant S_ .f32 0x0A800000#32
  let main_v56 : FVec F S37376x16 .f32 := broadcastInDim S37376x16 ![] bcast_S_S37376x16 main_cst_19
  let main_v57 : IVec S37376x16 1 := cmpf .oge main_arg5 main_v56
  let main_cst_20 : FVec F S_ .f32 := constant S_ .f32 0x5D800000#32
  let main_v58 : FVec F S37376x16 .f32 := broadcastInDim S37376x16 ![] bcast_S_S37376x16 main_cst_20
  let main_v59 : IVec S37376x16 1 := cmpf .ole main_arg5 main_v58
  let main_v60 : IVec S37376x16 1 := andi main_v57 main_v59
  let main_v61 : IVec S37376x16 1 := ori main_v55 main_v60
  let main_c_21 : IVec S_ 1 := constantI S_ 1 1#1
  let main_v62 : IVec S_ 1 := (fun x v => Host.reduce IntOp.andi x v reducesTo_S37376x16_S_d0_1 h_S_) main_v61 main_c_21
  let main_v63 : IVec S_ 1 := andi main_v53 main_v62
  main_v63

def fn_part2 {F : FTy → Type} [FloatOps F] (main_arg3 : FVec F S37376x16 .f32) (main_arg4 : IVec S37376x2048 8) (main_arg5 : FVec F S37376x16 .f32) (main_v32 : IVec S_ 1) (main_v33 : IVec S37376x2048 32) (main_v34 : IVec S37376x2048 32) : IVec S_ 1 :=
  let main_v35 : IVec S37376x2048 32 := andi main_v33 main_v34
  let main_c_11 : IVec S_ 32 := constantI S_ 32 127#32
  let main_v36 : IVec S37376x2048 32 := broadcastInDim S37376x2048 ![] bcast_S_S37376x2048 main_c_11
  let main_v37 : IVec S37376x2048 1 := cmpi .ne main_v35 main_v36
  let main_c_12 : IVec S_ 1 := constantI S_ 1 1#1
  let main_v38 : IVec S_ 1 := (fun x v => Host.reduce IntOp.andi x v reducesTo_S37376x2048_S_d0_1 h_S_) main_v37 main_c_12
  let main_v39 : FVec F S37376x16 .f32 := Host.absf main_arg3
  let main_cst_13 : FVec F S_ .f32 := constant S_ .f32 0x5D800000#32
  let main_v40 : FVec F S37376x16 .f32 := broadcastInDim S37376x16 ![] bcast_S_S37376x16 main_cst_13
  let main_v41 : IVec S37376x16 1 := cmpf .ole main_v39 main_v40
  let main_c_14 : IVec S_ 1 := constantI S_ 1 1#1
  let main_v42 : IVec S_ 1 := (fun x v => Host.reduce IntOp.andi x v reducesTo_S37376x16_S_d0_1 h_S_) main_v41 main_c_14
  let main_v43 : IVec S_ 1 := andi main_v38 main_v42
  let main_v44 : IVec S_ 1 := andi main_v32 main_v43
  let main_v45 : IVec S37376x2048 32 := (extsi 32 · natLt_8_32) main_arg4
  let main_c_15 : IVec S_ 32 := constantI S_ 32 0#32
  let main_v46 : IVec S37376x2048 32 := broadcastInDim S37376x2048 ![] bcast_S_S37376x2048 main_c_15
  let main_v47 : IVec S37376x2048 1 := cmpi .sge main_v45 main_v46
  let main_v48 : IVec S37376x2048 32 := (extsi 32 · natLt_8_32) main_arg4
  let main_c_16 : IVec S_ 32 := constantI S_ 32 124#32
  let main_v49 : IVec S37376x2048 32 := broadcastInDim S37376x2048 ![] bcast_S_S37376x2048 main_c_16
  let main_v50 : IVec S37376x2048 1 := cmpi .slt main_v48 main_v49
  let main_v51 : IVec S37376x2048 1 := andi main_v47 main_v50
  let main_c_17 : IVec S_ 1 := constantI S_ 1 1#1
  fn_part3 (F := F) main_arg5 main_v44 main_v51 main_c_17

def fn_part1 {F : FTy → Type} [FloatOps F] (main_arg2 : IVec S37376x2048 8) (main_arg3 : FVec F S37376x16 .f32) (main_arg4 : IVec S37376x2048 8) (main_arg5 : FVec F S37376x16 .f32) (main_v1 : FVec F S37376x2048 .f32) (main_v7 : FVec F S_ .f32) (main_v14 : IVec S_ 1) (main_v17 : IVec S37376x2048 1) : IVec S_ 1 :=
  let main_c_4 : IVec S_ 1 := constantI S_ 1 1#1
  let main_v18 : IVec S_ 1 := (fun x v => Host.reduce IntOp.andi x v reducesTo_S37376x2048_S_d0_1 h_S_) main_v17 main_c_4
  let main_v19 : IVec S_ 1 := andi main_v14 main_v18
  let main_cst_5 : FVec F S_ .f32 := constant S_ .f32 0x5D800000#32
  let main_v20 : FVec F S37376x2048 .f32 := broadcastInDim S37376x2048 ![] bcast_S_S37376x2048 main_cst_5
  let main_v21 : IVec S37376x2048 1 := cmpf .ole main_v1 main_v20
  let main_c_6 : IVec S_ 1 := constantI S_ 1 1#1
  let main_v22 : IVec S_ 1 := (fun x v => Host.reduce IntOp.andi x v reducesTo_S37376x2048_S_d0_1 h_S_) main_v21 main_c_6
  let main_cst_7 : FVec F S_ .f32 := constant S_ .f32 0x00000000#32
  let main_v23 : FVec F S37376x2048 .f32 := broadcastInDim S37376x2048 ![] bcast_S_S37376x2048 main_cst_7
  let main_v24 : IVec S37376x2048 1 := cmpf .oeq main_v1 main_v23
  let main_v25 : FVec F S37376x2048 .f32 := broadcastInDim S37376x2048 ![] bcast_S_S37376x2048 main_v7
  let main_v26 : FVec F S37376x2048 .f32 := mulf main_v1 main_v25
  let main_cst_8 : FVec F S_ .f32 := constant S_ .f32 0x23800000#32
  let main_v27 : FVec F S37376x2048 .f32 := broadcastInDim S37376x2048 ![] bcast_S_S37376x2048 main_cst_8
  let main_v28 : IVec S37376x2048 1 := cmpf .oge main_v26 main_v27
  let main_v29 : IVec S37376x2048 1 := ori main_v24 main_v28
  let main_c_9 : IVec S_ 1 := constantI S_ 1 1#1
  let main_v30 : IVec S_ 1 := (fun x v => Host.reduce IntOp.andi x v reducesTo_S37376x2048_S_d0_1 h_S_) main_v29 main_c_9
  let main_v31 : IVec S_ 1 := andi main_v22 main_v30
  let main_v32 : IVec S_ 1 := andi main_v19 main_v31
  let main_v33 : IVec S37376x2048 32 := (extsi 32 · natLt_8_32) main_arg2
  let main_c_10 : IVec S_ 32 := constantI S_ 32 127#32
  let main_v34 : IVec S37376x2048 32 := broadcastInDim S37376x2048 ![] bcast_S_S37376x2048 main_c_10
  fn_part2 (F := F) main_arg3 main_arg4 main_arg5 main_v32 main_v33 main_v34

def fn {F : FTy → Type} [FloatOps F] (main_arg0 : FVec F S37376x2048 .f32) (main_arg1 : FVec F S37376x2048 .bf16) (main_arg2 : IVec S37376x2048 8) (main_arg3 : FVec F S37376x16 .f32) (main_arg4 : IVec S37376x2048 8) (main_arg5 : FVec F S37376x16 .f32) (main_arg6 : IVec S_ 32) (main_arg7 : FVec F S8x128 .f32) : IVec S_ 1 :=
  let main_v0 : FVec F S37376x2048 .f32 := (extf .f32 · bitsLt_bf16_f32) main_arg1
  let main_v1 : FVec F S37376x2048 .f32 := Host.absf main_v0
  let main_v2 : FVec F S1x1 .f32 := (extractStridedSlice S1x1 ![0, 0] · slices_S8x128_S1x1_0_0) main_arg7
  let main_v3 : FVec F S_ .f32 := shapeCast S_ main_v2 shapeCasts_S1x1_S_
  let main_v4 : FVec F S_ .f32 := Host.sqrt main_v3
  let main_cst : FVec F S_ .f32 := constant S_ .f32 0x358637BD#32
  let main_v5 : FVec F S_ .f32 := addf main_v4 main_cst
  let main_cst_0 : FVec F S_ .f32 := constant S_ .f32 0x3F800000#32
  let main_v6 : FVec F S_ .f32 := Host.divf main_cst_0 main_v5
  let main_cst_1 : FVec F S_ .f32 := constant S_ .f32 0x3F800000#32
  let main_v7 : FVec F S_ .f32 := minimumf main_cst_1 main_v6
  let main_c : IVec S_ 32 := constantI S_ 32 1#32
  let main_v8 : IVec S_ 1 := cmpi .sge main_arg6 main_c
  let main_v9 : FVec F S1x1 .f32 := (extractStridedSlice S1x1 ![0, 0] · slices_S8x128_S1x1_0_0) main_arg7
  let main_v10 : FVec F S_ .f32 := shapeCast S_ main_v9 shapeCasts_S1x1_S_
  let main_v11 : FVec F S8x128 .f32 := broadcastInDim S8x128 ![] bcast_S_S8x128 main_v10
  let main_v12 : IVec S8x128 1 := cmpf .oeq main_arg7 main_v11
  let main_c_2 : IVec S_ 1 := constantI S_ 1 1#1
  let main_v13 : IVec S_ 1 := (fun x v => Host.reduce IntOp.andi x v reducesTo_S8x128_S_d0_1 h_S_) main_v12 main_c_2
  let main_v14 : IVec S_ 1 := andi main_v8 main_v13
  let main_v15 : FVec F S37376x2048 .f32 := Host.absf main_arg0
  let main_cst_3 : FVec F S_ .f32 := constant S_ .f32 0x7F800000#32
  let main_v16 : FVec F S37376x2048 .f32 := broadcastInDim S37376x2048 ![] bcast_S_S37376x2048 main_cst_3
  let main_v17 : IVec S37376x2048 1 := cmpf .olt main_v15 main_v16
  fn_part1 (F := F) main_arg2 main_arg3 main_arg4 main_arg5 main_v1 main_v7 main_v14 main_v17
-- ==== Update.lean ====
abbrev S37376x2048 : Shape := ⟨2, ![37376, 2048]⟩
abbrev S37376x16 : Shape := ⟨2, ![37376, 16]⟩
abbrev S_ : Shape := ⟨0, ![]⟩
abbrev S8x128 : Shape := ⟨2, ![8, 128]⟩
abbrev S1 : Shape := ⟨1, ![1]⟩
abbrev S16x37376 : Shape := ⟨2, ![16, 37376]⟩
abbrev S256x2048 : Shape := ⟨2, ![256, 2048]⟩
abbrev S16x256 : Shape := ⟨2, ![16, 256]⟩
abbrev S48x2048 : Shape := ⟨2, ![48, 2048]⟩
abbrev S128x2048 : Shape := ⟨2, ![128, 2048]⟩
abbrev S1x128 : Shape := ⟨2, ![1, 128]⟩
abbrev S16x128 : Shape := ⟨2, ![16, 128]⟩
abbrev S48x128 : Shape := ⟨2, ![48, 128]⟩
abbrev S48x256 : Shape := ⟨2, ![48, 256]⟩
abbrev S256x256 : Shape := ⟨2, ![256, 256]⟩
abbrev S128x128 : Shape := ⟨2, ![128, 128]⟩
abbrev S128 : Shape := ⟨1, ![128]⟩
abbrev S128x256 : Shape := ⟨2, ![128, 256]⟩

abbrev nBuf : Space → Nat
  | .hbm => 18
  | .vmem => 26
  | .smem => 1
  | _ => 0

abbrev bufTy : (tb : Table) → Fin (tcTables nBuf tb) → BufTy
  | .hbm, ⟨0, _⟩ => ⟨S37376x2048, .f32⟩
  | .hbm, ⟨1, _⟩ => ⟨S37376x2048, .bf16⟩
  | .hbm, ⟨2, _⟩ => ⟨S37376x2048, .i8⟩
  | .hbm, ⟨3, _⟩ => ⟨S37376x16, .f32⟩
  | .hbm, ⟨4, _⟩ => ⟨S37376x2048, .i8⟩
  | .hbm, ⟨5, _⟩ => ⟨S37376x16, .f32⟩
  | .hbm, ⟨6, _⟩ => ⟨S_, .i32⟩
  | .hbm, ⟨7, _⟩ => ⟨S8x128, .f32⟩
  | .hbm, ⟨8, _⟩ => ⟨S37376x2048, .fp8e4m3⟩
  | .hbm, ⟨9, _⟩ => ⟨S37376x2048, .fp8e5m2⟩
  | .hbm, ⟨10, _⟩ => ⟨S1, .i32⟩
  | .hbm, ⟨11, _⟩ => ⟨S16x37376, .f32⟩
  | .hbm, ⟨12, _⟩ => ⟨S16x37376, .f32⟩
  | .hbm, ⟨13, _⟩ => ⟨S37376x2048, .f32⟩
  | .hbm, ⟨14, _⟩ => ⟨S37376x2048, .fp8e4m3⟩
  | .hbm, ⟨15, _⟩ => ⟨S16x37376, .f32⟩
  | .hbm, ⟨16, _⟩ => ⟨S37376x2048, .fp8e5m2⟩
  | .hbm, ⟨17, _⟩ => ⟨S16x37376, .f32⟩
  | .local _ .vmem, ⟨0, _⟩ => ⟨S8x128, .f32⟩
  | .local _ .vmem, ⟨1, _⟩ => ⟨S256x2048, .f32⟩
  | .local _ .vmem, ⟨2, _⟩ => ⟨S256x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .fp8e4m3⟩
  | .local _ .vmem, ⟨6, _⟩ => ⟨S256x2048, .fp8e4m3⟩
  | .local _ .vmem, ⟨7, _⟩ => ⟨S16x256, .f32⟩
  | .local _ .vmem, ⟨8, _⟩ => ⟨S16x256, .f32⟩
  | .local _ .vmem, ⟨9, _⟩ => ⟨S256x2048, .fp8e5m2⟩
  | .local _ .vmem, ⟨10, _⟩ => ⟨S256x2048, .fp8e5m2⟩
  | .local _ .vmem, ⟨11, _⟩ => ⟨S16x256, .f32⟩
  | .local _ .vmem, ⟨12, _⟩ => ⟨S16x256, .f32⟩
  | .local _ .vmem, ⟨13, _⟩ => ⟨S256x2048, .f32⟩
  | .local _ .vmem, ⟨14, _⟩ => ⟨S256x2048, .f32⟩
  | .local _ .vmem, ⟨15, _⟩ => ⟨S256x2048, .fp8e4m3⟩
  | .local _ .vmem, ⟨16, _⟩ => ⟨S256x2048, .fp8e4m3⟩
  | .local _ .vmem, ⟨17, _⟩ => ⟨S16x256, .f32⟩
  | .local _ .vmem, ⟨18, _⟩ => ⟨S16x256, .f32⟩
  | .local _ .vmem, ⟨19, _⟩ => ⟨S256x2048, .fp8e5m2⟩
  | .local _ .vmem, ⟨20, _⟩ => ⟨S256x2048, .fp8e5m2⟩
  | .local _ .vmem, ⟨21, _⟩ => ⟨S16x256, .f32⟩
  | .local _ .vmem, ⟨22, _⟩ => ⟨S16x256, .f32⟩
  | .local _ .vmem, ⟨23, _⟩ => ⟨S48x2048, .bf16⟩
  | .local _ .vmem, ⟨24, _⟩ => ⟨S128x2048, .f32⟩
  | .local _ .vmem, ⟨25, _⟩ => ⟨S128x2048, .f32⟩
  | .local _ .smem, ⟨0, _⟩ => ⟨S1, .i32⟩
  | _, _ => ⟨S37376x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![146], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== UpdateIdeal.lean ====
variable {F : FTy → Type} [FloatOps F] [Named F]
def κ : String → Option EReal := fun
  | "beta1" => some ((9 / 10 : ℝ) : EReal)
  | "log_beta1" => some ((Real.log (9 / 10) : ℝ) : EReal)
  | "log_beta2" => some ((Real.log (999 / 1000) : ℝ) : EReal)
  | "lr_wd" => some ((1 / 100000 : ℝ) : EReal)
  | "neg_eps_over_lr" => some ((-1 / 100000 : ℝ) : EReal)
  | "one_minus_beta1" => some ((1 / 10 : ℝ) : EReal)
  | "root_one_minus_beta2" => some ((Real.sqrt (1 / 1000) : ℝ) : EReal)
  | _ => none
-- ==== ReferenceIdeal.lean ====
abbrev S37376x2048 : Shape := ⟨2, ![37376, 2048]⟩
abbrev S37376x16 : Shape := ⟨2, ![37376, 16]⟩
abbrev S_ : Shape := ⟨0, ![]⟩
abbrev S8x128 : Shape := ⟨2, ![8, 128]⟩
abbrev S1x1 : Shape := ⟨2, ![1, 1]⟩
abbrev S16x37376 : Shape := ⟨2, ![16, 37376]⟩
abbrev S37376x16x1 : Shape := ⟨3, ![37376, 16, 1]⟩
abbrev S37376x16x128 : Shape := ⟨3, ![37376, 16, 128]⟩

abbrev nBuf : Space → Nat
  | .hbm => 27
  | .vmem => 13
  | .smem => 0
  | _ => 0

abbrev bufTy : (tb : Table) → Fin (tcTables nBuf tb) → BufTy
  | .hbm, ⟨0, _⟩ => ⟨S37376x2048, .f32⟩
  | .hbm, ⟨1, _⟩ => ⟨S37376x2048, .bf16⟩
  | .hbm, ⟨2, _⟩ => ⟨S37376x2048, .i8⟩
  | .hbm, ⟨3, _⟩ => ⟨S37376x16, .f32⟩
  | .hbm, ⟨4, _⟩ => ⟨S37376x2048, .i8⟩
  | .hbm, ⟨5, _⟩ => ⟨S37376x16, .f32⟩
  | .hbm, ⟨6, _⟩ => ⟨S_, .i32⟩
  | .hbm, ⟨7, _⟩ => ⟨S8x128, .f32⟩
  | .hbm, ⟨8, _⟩ => ⟨S37376x2048, .fp8e4m3⟩
  | .hbm, ⟨9, _⟩ => ⟨S37376x2048, .fp8e5m2⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x1, .f32⟩
  | .hbm, ⟨21, _⟩ => ⟨S1x1, .f32⟩
  | .hbm, ⟨22, _⟩ => ⟨S37376x2048, .f32⟩
  | .hbm, ⟨23, _⟩ => ⟨S37376x2048, .fp8e4m3⟩
  | .hbm, ⟨24, _⟩ => ⟨S16x37376, .f32⟩
  | .hbm, ⟨25, _⟩ => ⟨S37376x2048, .fp8e5m2⟩
  | .hbm, ⟨26, _⟩ => ⟨S16x37376, .f32⟩
  | .local _ .vmem, ⟨0, _⟩ => ⟨S1x1, .f32⟩
  | .local _ .vmem, ⟨1, _⟩ => ⟨S1x1, .f32⟩
  | .local _ .vmem, ⟨2, _⟩ => ⟨S37376x2048, .f32⟩
  | .local _ .vmem, ⟨3, _⟩ => ⟨S37376x2048, .bf16⟩
  | .local _ .vmem, ⟨4, _⟩ => ⟨S37376x2048, .fp8e4m3⟩
  | .local _ .vmem, ⟨5, _⟩ => ⟨S37376x16, .f32⟩
  | .local _ .vmem, ⟨6, _⟩ => ⟨S37376x2048, .fp8e5m2⟩
  | .local _ .vmem, ⟨7, _⟩ => ⟨S37376x16, .f32⟩
  | .local _ .vmem, ⟨8, _⟩ => ⟨S37376x2048, .f32⟩
  | .local _ .vmem, ⟨9, _⟩ => ⟨S37376x2048, .fp8e4m3⟩
  | .local _ .vmem, ⟨10, _⟩ => ⟨S16x37376, .f32⟩
  | .local _ .vmem, ⟨11, _⟩ => ⟨S37376x2048, .fp8e5m2⟩
  | .local _ .vmem, ⟨12, _⟩ => ⟨S16x37376, .f32⟩
  | _, _ => ⟨S37376x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "beta1" => some ((9 / 10 : ℝ) : EReal)
  | "eps" => some ((1 / 100000000 : ℝ) : EReal)
  | "inv_e4m3_max" => some ((1 / 448 : ℝ) : EReal)
  | "inv_e5m2_max" => some ((1 / 57344 : ℝ) : EReal)
  | "inv_log2" => some (((Real.log 2)⁻¹ : ℝ) : EReal)
  | "lr_wd" => some ((1 / 100000 : ℝ) : EReal)
  | "neg_lr" => some ((-1 / 1000 : ℝ) : EReal)
  | "one_minus_beta1" => some ((1 / 10 : ℝ) : EReal)
  | "one_minus_beta2" => some ((1 / 1000 : ℝ) : EReal)
  | "weight_decay" => some ((1 / 100 : ℝ) : EReal)
  | _ => none

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S37376x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S37376x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S37376x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S37376x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S37376x2048 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S37376x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S37376x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S37376x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x37376 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S37376x2048 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x37376 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Norm.lean ====
abbrev S37376x2048 : Shape := ⟨2, ![37376, 2048]⟩
abbrev S8x128 : Shape := ⟨2, ![8, 128]⟩
abbrev S512x2048 : Shape := ⟨2, ![512, 2048]⟩
abbrev S8x2048 : Shape := ⟨2, ![8, 2048]⟩
abbrev S16x2048 : Shape := ⟨2, ![16, 2048]⟩
abbrev S8 : Shape := ⟨1, ![8]⟩
abbrev S8x1 : Shape := ⟨2, ![8, 1]⟩
abbrev S1 : Shape := ⟨1, ![1]⟩
abbrev S1x1 : Shape := ⟨2, ![1, 1]⟩

abbrev nBuf : Space → Nat
  | .hbm => 2
  | .vmem => 4
  | .smem => 0
  | _ => 0

abbrev bufTy : (tb : Table) → Fin (tcTables nBuf tb) → BufTy
  | .hbm, ⟨0, _⟩ => ⟨S37376x2048, .bf16⟩
  | .hbm, ⟨1, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S8x128, .f32⟩
  | .local _ .vmem, ⟨3, _⟩ => ⟨S8x2048, .f32⟩
  | _, _ => ⟨S37376x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![73], ![false]⟩

def k0_cond2 (i : grid0.Coords) : BitVec 1 :=
  let arg0 : BitVec 32 := BitVec.ofNat 32 (i 0).val
  let c72_i32 : BitVec 32 := 72#32
  let v231 : BitVec 1 := Scalar.cmpi .eq arg0 c72_i32
  let v232 : BitVec 32 := Scalar.extui v231
  let c0_i32_37 : BitVec 32 := 0#32
  let v233 : BitVec 1 := Scalar.cmpi .ne v232 c0_i32_37
  v233

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== NormRefIdeal.lean ====
abbrev S37376x2048 : Shape := ⟨2, ![37376, 2048]⟩
abbrev S_ : Shape := ⟨0, ![]⟩
abbrev S8x128 : Shape := ⟨2, ![8, 128]⟩

abbrev nBuf : Space → Nat
  | .hbm => 6
  | .vmem => 0
  | .smem => 0
  | _ => 0

abbrev bufTy : (tb : Table) → Fin (tcTables nBuf tb) → BufTy
  | .hbm, ⟨0, _⟩ => ⟨S37376x2048, .bf16⟩
  | .hbm, ⟨1, _⟩ => ⟨S37376x2048, .f32⟩
  | .hbm, ⟨2, _⟩ => ⟨S37376x2048, .f32⟩
  | .hbm, ⟨3, _⟩ => ⟨S_, .f32⟩
  | .hbm, ⟨4, _⟩ => ⟨S_, .f32⟩
  | .hbm, ⟨5, _⟩ => ⟨S8x128, .f32⟩
  | _, _ => ⟨S37376x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.NormStores.lean ====
module

public import proofs.«01_k».proof.Proof.Gen.NormIdeal.Value
public import Idealize.ShloMosaic.Lib.Pipeline.ReadBack

/-! The sum of squares, as its kernel's body leaves it at a point: the block's 32 slices of 16 rows are squared, each
folded onto 8 rows and added into the scratch; the last point sums the scratch. -/

@[expose] public section

noncomputable section

namespace Cert.NormIdeal.Slices

open Cert.NormIdeal Cert.NormIdeal.Gen Idealize.ShloMosaic Idealize.ShloMosaic.TcCoe Idealize.SL.Sem

variable {F : FTy → Type} [FloatOps F]

theorem inb_slice (k : Fin 32) : ∀ a, (![16 * k.val, 0] : Fin 2 → ℕ) a + S16x2048.size a ≤ S512x2048.size a := by
  revert k; decide

/-- Slice `k` of a block: 16 rows. -/
abbrev slice (k : Fin 32) : Rect S512x2048 := Rect.unit ![16 * k.val, 0] S16x2048.size (inb_slice k)

/-- The squares of 16 rows, the lower 8 added onto the upper 8. -/
def squares (x : Vec F S16x2048 .bf16) : FVec F S8x2048 .f32 :=
  have s : FVec F S16x2048 .f32 := mulf (extf .f32 x bitsLt_bf16_f32) (extf .f32 x bitsLt_bf16_f32)
  addf (extractStridedSlice S8x2048 ![0, 0] s slices_S16x2048_o0_0_S8x2048)
    (extractStridedSlice S8x2048 ![8, 0] s slices_S16x2048_o8_0_S8x2048)

/-- The first `n + 1` slices of a block, added up in order. -/
def upTo (x : Vec F S512x2048 .bf16) : (n : ℕ) → n < 32 → FVec F S8x2048 .f32
  | 0, h => squares (View.ld x (slice ⟨0, h⟩))
  | n + 1, h => addf (upTo x n (Nat.lt_of_succ_lt h)) (squares (View.ld x (slice ⟨n + 1, h⟩)))

/-- What a block adds into the scratch. -/
def added (x : Vec F S512x2048 .bf16) (acc : Vec F S8x2048 .f32) : FVec F S8x2048 .f32 :=
  k0_pay1 (addf acc (upTo x 31 (by decide)))

abbrev whole : Rect S8x2048 := Rect.unit ![0, 0] S8x2048.size inb_S8x2048_S8x2048_0_0

variable (c : Dev nD) (i : grid0.Coords)
    (arg1 : Memref sig .tc .vmem S512x2048 .bf16) (harg1 : arg1.IsWhole)
    (arg2 : Memref sig .tc .vmem S8x128 .f32) (harg2 : arg2.IsWhole)
    (arg3 : Memref sig .tc .vmem S8x2048 .f32) (harg3 : arg3.IsWhole)
  (x0 : Vec F S512x2048 .bf16)

/-- A point between the first and the last adds its block into the scratch. -/
theorem stores_B (hc0 : ¬cond0_0 i) (hc1 : ¬cond0_1 i) (xs0 : Vec F S8x2048 .f32) :
    (kernelRun0_B c i arg1 harg1 arg2 harg2 arg3 harg3 hc0 hc1 x0 xs0).2.1 = [⟨whole, added x0 (View.ld xs0 whole)⟩] := by
  have h : (kernelRun0_B c i arg1 harg1 arg2 harg2 arg3 harg3 hc0 hc1 x0 xs0).2.1
      = [⟨whole, added (arg1.view.read (Elt F) (harg1.unread x0)) (View.ld (arg3.view.read (Elt F) (harg3.unread xs0)) whole)⟩] := by
    sl_kernel_rfl
  simpa only [Memref.IsWhole.read_unread] using h

/-- So does the last point. -/
theorem stores_C (hc0 : ¬cond0_0 i) (hc1 : cond0_1 i) (xs0 : Vec F S8x2048 .f32) :
    (kernelRun0_C c i arg1 harg1 arg2 harg2 arg3 harg3 hc0 hc1 x0 xs0).2.1 = [⟨whole, added x0 (View.ld xs0 whole)⟩] := by
  have h : (kernelRun0_C c i arg1 harg1 arg2 harg2 arg3 harg3 hc0 hc1 x0 xs0).2.1
      = [⟨whole, added (arg1.view.read (Elt F) (harg1.unread x0)) (View.ld (arg3.view.read (Elt F) (harg3.unread xs0)) whole)⟩] := by
    sl_kernel_rfl
  simpa only [Memref.IsWhole.read_unread] using h

/-- The first point clears the scratch and adds its block. -/
theorem stores_A (hc0 : cond0_0 i) (hc1 : ¬cond0_1 i) :
    (kernelRun0_A c i arg1 harg1 arg2 harg2 arg3 harg3 hc0 hc1 x0).2.1
      = [⟨whole, added x0 k0_pay3⟩, ⟨whole, k0_pay3⟩] := by
  have h : (kernelRun0_A c i arg1 harg1 arg2 harg2 arg3 harg3 hc0 hc1 x0).2.1
      = [⟨whole, added (arg1.view.read (Elt F) (harg1.unread x0)) (arg3.view.readCov [⟨whole, k0_pay3⟩] whole.toLoadRect)⟩,
          ⟨whole, k0_pay3⟩] := by
    sl_kernel_rfl
  rw [View.readCov_unit_lit _ _ _ (by decide)] at h
  simpa only [Memref.IsWhole.read_unread] using h

/-- The last point's result is the sum over the scratch it has just filled. -/
theorem result_C (hc0 : ¬cond0_0 i) (hc1 : cond0_1 i) (xs0 : Vec F S8x2048 .f32) :
    (kernelRun0_C c i arg1 harg1 arg2 harg2 arg3 harg3 hc0 hc1 x0 xs0).1
      = [⟨Rect.unit ![0, 0] S8x128.size inb_S8x128_S8x128_0_0, k0_pay2 (added x0 (View.ld xs0 whole))⟩] := by
  have h : (kernelRun0_C c i arg1 harg1 arg2 harg2 arg3 harg3 hc0 hc1 x0 xs0).1
      = [⟨Rect.unit ![0, 0] S8x128.size inb_S8x128_S8x128_0_0, k0_pay2 (arg3.view.readCov
          [⟨whole, added (arg1.view.read (Elt F) (harg1.unread x0)) (View.ld (arg3.view.read (Elt F) (harg3.unread xs0)) whole)⟩]
          whole.toLoadRect)⟩] := by
    sl_kernel_rfl
  rw [View.readCov_unit_lit _ _ _ (by decide)] at h
  simpa only [Memref.IsWhole.read_unread] using h

end Cert.NormIdeal.Slices

end
-- ==== Proof.NormValue.lean ====
module

public import proofs.«01_k».proof.Proof.NormStores
public import Idealize.ShloMosaic.Lib.Pointwise
public import Idealize.ShloMosaic.Lib.Claim
public import Idealize.ShloMosaic.Lib.Pipeline.ValueKit.Point
public import Idealize.ShloMosaic.Lib.Pipeline.ValueKit.Acc

/-! What the sum of squares comes to over the reals: the scratch gathers, point by point, the squares of the rows that fall
on each of its 8 rows; summed at the last point they are the squares of every element of the gradient. -/

@[expose] public section

set_option maxRecDepth 16384

noncomputable section

namespace Cert.NormIdeal.Slices

open Cert.NormIdeal Cert.NormIdeal.Gen Idealize.ShloMosaic Idealize.ShloMosaic.TcCoe Idealize.SL.Sem

/-- Row `a` of slice `k` of a block. -/
abbrev inBlock (k : Fin 32) (a : Fin 16) : Fin 512 := ⟨16 * k.val + a.val, by omega⟩

/-- Row `i` of block `t`. -/
abbrev row (t : Fin cfg0.N) (i : Fin 512) : Fin 37376 :=
  ⟨512 * t.val + i.val, by have := lt_of_lt_of_eq t.isLt N_0; have := i.isLt; omega⟩

theorem idx0 : ∀ t : Fin cfg0.N, win0_0.index t = ![t.val, 0] := (by decide +kernel : ∀ t : Fin grid0.N, win0_0.index t = ![t.val, 0])

section Frame

variable {F : FTy → Type} [FloatOps F]

theorem ld_slice (x : Vec F S512x2048 .bf16) (k : Fin 32) (a : Fin 16) (b : Fin 2048) :
    View.ld x (slice k) (ix2 a b) = x (ix2 (inBlock k a) b) := by
  pointwise [inBlock]

variable (m : (ℓ : Loc nD τ sig) → Buf (Elt F) ℓ) (c : Dev nD)

theorem iblk0_apply (t : Fin cfg0.N) (i : Fin 512) (j : Fin 2048) :
    (iblk m c 0 t : Vec F S512x2048 .bf16) (ix2 i j) = m ((c : Thread nD τ).loc main_arg0) (ix2 (row t i) j) := by
  blk_ext [iblk, V, idx0, row]

variable [∀ e, Nonempty (Elt F e)]

/-- The scratch after the first point. -/
theorem scratch_first (t : Fin cfg0.N) (h : t.val % 73 = 0) :
    (outsAt0 m c t.val t.isLt).2 = added (iblk m c 0 t) k0_pay3 := by
  rw [outsAt0_A m c t h (by omega)]
  dsimp only
  unfold sout0_A_0
  rw [View.read_writes_eq_canon _ _ _ (scover0_A_0 c _ _ _ _ _ _ _ _ _ _), stores_A]
  exact View.canon_cons_unit_lit _ _ _ (by decide)

/-- The scratch after a later point. -/
theorem scratch_next (t : Fin cfg0.N) (h : ¬t.val % 73 = 0) :
    (outsAt0 m c t.val t.isLt).2
      = added (iblk m c 0 t) (outsAt0 m c (t.val - 1) (Nat.lt_of_le_of_lt (Nat.sub_le _ _) t.isLt)).2 := by
  by_cases h1 : t.val % 73 = 72
  · rw [outsAt0_C m c t h h1]
    dsimp only
    unfold sout0_C_0
    rw [View.read_writes_eq_canon _ _ _ (scover0_C_0 c _ _ _ _ _ _ _ _ _ _ _), stores_C]
    exact (View.canon_cons_unit_lit _ _ _ (by decide)).trans (congrArg _ (View.ld_unit_lit _ _ (by decide)))
  · rw [outsAt0_B m c t h h1]
    dsimp only
    unfold sout0_B_0
    rw [View.read_writes_eq_canon _ _ _ (scover0_B_0 c _ _ _ _ _ _ _ _ _ _ _), stores_B]
    exact (View.canon_cons_unit_lit _ _ _ (by decide)).trans (congrArg _ (View.ld_unit_lit _ _ (by decide)))

/-- The result of the last point is summed from the scratch as that point leaves it. -/
theorem result_last (t : Fin cfg0.N) (h : t.val % 73 = 72) :
    (outsAt0 m c t.val t.isLt).1 = k0_pay2 (outsAt0 m c t.val t.isLt).2 := by
  rw [scratch_next m c t (by omega), outsAt0_C m c t (by omega) h]
  dsimp only
  unfold out0_C_1
  rw [View.read_writes_eq_canon _ _ _ (cover0_C_1 c _ _ _ _ _ _ _ _ _ _ _), result_C]
  exact (View.canon_cons_unit_lit _ _ _ (by decide)).trans
    (congrArg (fun a => k0_pay2 (added (iblk m c 0 t) a)) (View.ld_unit_lit _ _ (by decide)))

end Frame

/-- The squares a slice leaves at row `a` of the scratch are those of its rows `a` and `8 + a`. -/
theorem squares_apply (x : Vec Ideal S16x2048 .bf16) (a : Fin 8) (b : Fin 2048) :
    squares x (ix2 a b) = x (ix2 (Fin.castAdd 8 a) b) * x (ix2 (Fin.castAdd 8 a) b)
      + x (ix2 (Fin.natAdd 8 a) b) * x (ix2 (Fin.natAdd 8 a) b) := by
  pointwise [squares]
  rfl

theorem upTo_eq (x : Vec Ideal S512x2048 .bf16) (i : S8x2048.Idx) :
    ∀ (n : ℕ) (h : n < 32), upTo x n h i = ∑ k : Fin (n + 1), squares (View.ld x (slice ⟨k.val, by omega⟩)) i
  | 0, h => by rw [Fin.sum_univ_one]; rfl
  | n + 1, h => by
    rw [Fin.sum_univ_castSucc]
    exact congrArg (· + _) (upTo_eq x i n (Nat.lt_of_succ_lt h))

theorem added_apply (x : Vec Ideal S512x2048 .bf16) (acc : Vec Ideal S8x2048 .f32) (a : Fin 8) (b : Fin 2048) :
    added x acc (ix2 a b) = acc (ix2 a b) + ∑ k : Fin 32, squares (View.ld x (slice k)) (ix2 a b) := by
  rw [show added x acc (ix2 a b) = acc (ix2 a b) + upTo x 31 (by decide) (ix2 a b) by pointwise [added, k0_pay1], upTo_eq]

/-- What the last point writes is the sum over the scratch, everywhere. -/
theorem total_apply (acc : Vec Ideal S8x2048 .f32) (i : S8x128.Idx) :
    k0_pay2 acc i = ∑ a : Fin 8, ∑ b : Fin 2048, acc (ix2 a b) := by
  obtain ⟨p, q, rfl⟩ : ∃ p q, i = ix2 p q := ⟨_, _, eq_ix2 (n0 := 8) (n1 := 128) i⟩
  pointwise [k0_pay2]

/-- 73 blocks of 32 slices of 16 rows are all the rows. -/
theorem sum_rows (f : Fin 37376 → EReal) :
    ∑ t : Fin cfg0.N, ∑ k : Fin 32, ∑ a : Fin 16, f (row t (inBlock k a)) = ∑ R : Fin 37376, f R := by
  have h : (2336 : ℕ) = cfg0.N * 32 := by rw [show cfg0.N = 73 from N_0]
  rw [← Fin.sum_mul_add_fin 2336 16 f, ← Fin.sum_mul_add_fin cfg0.N 32 _ h]
  refine Fin.sum_fin_congr fun t => Fin.sum_fin_congr fun k => Fin.sum_fin_congr fun a => congrArg f (Fin.ext ?_)
  show 512 * t.val + (16 * k.val + a.val) = (t.val * 32 + k.val) * 16 + a.val
  omega

variable (m : (ℓ : Loc nD τ sig) → Buf (Elt Ideal) ℓ) (c : Dev nD)

/-- The gradient. -/
abbrev grad : S37376x2048.Idx → EReal := m ((c : Thread nD τ).loc main_arg0)

/-- The square of the gradient's element `(R, j)`. -/
def square (R : Fin 37376) (j : Fin 2048) : EReal := grad m c (ix2 R j) * grad m c (ix2 R j)

/-- A block's slice, squared, in the gradient's own rows. -/
theorem slice_squares (t : Fin cfg0.N) (k : Fin 32) (a : Fin 8) (b : Fin 2048) :
    squares (View.ld (iblk m c 0 t : Vec Ideal S512x2048 .bf16) (slice k)) (ix2 a b)
      = square m c (row t (inBlock k (Fin.castAdd 8 a))) b + square m c (row t (inBlock k (Fin.natAdd 8 a))) b := by
  rw [squares_apply, ld_slice, ld_slice, iblk0_apply, iblk0_apply]
  rfl

/-- The scratch at the last point. -/
theorem scratch_last (t : Fin cfg0.N) (ht : t.val + 1 = cfg0.N) (a : Fin 8) (b : Fin 2048) :
    (outsAt0 m c t.val t.isLt).2 (ix2 a b)
      = ∑ p : Fin cfg0.N, ∑ k : Fin 32, squares (View.ld (iblk m c 0 p : Vec Ideal S512x2048 .bf16) (slice k)) (ix2 a b) := by
  have h := Pipeline.eq_sum_fin_of_reset_step_apply_last (M := EReal) (fun n h (y : Fin 8 × Fin 2048) => (outsAt0 m c n h).2 (ix2 y.1 y.2)) 73
    (fun _ => 0)
    (fun p y => ∑ k : Fin 32, squares (View.ld (iblk m c 0 p : Vec Ideal S512x2048 .bf16) (slice k)) (ix2 y.1 y.2))
    (fun t h y => by
      dsimp only
      rw [scratch_first m c t h, added_apply]
      exact congrArg (· + _) (by pointwise [k0_pay3]))
    (fun t h y => by
      dsimp only
      rw [scratch_next m c t h]
      exact added_apply _ _ _ _)
    (le_of_eq N_0) t ht (a, b)
  exact h.trans (zero_add _)

/-- THE RESULT: the sum of the squares of every element of the gradient, in each of its entries. -/
theorem norm_array (i : S8x128.Idx) :
    (Value.G1 m c i : EReal) = ∑ R : Fin 37376, ∑ j : Fin 2048, square m c R j := by
  have h72 : 72 < cfg0.N := lt_of_lt_of_eq (by decide) N_0.symm
  rw [Value.G1_last, ← Value.outsAt0_sweep m c 72 h72, result_last m c ⟨72, h72⟩ rfl, total_apply]
  simp only [scratch_last m c ⟨72, h72⟩ N_0.symm, slice_squares]
  rw [← sum_rows]
  calc ∑ a : Fin 8, ∑ b : Fin 2048, ∑ p : Fin cfg0.N, ∑ k : Fin 32,
        (square m c (row p (inBlock k (Fin.castAdd 8 a))) b + square m c (row p (inBlock k (Fin.natAdd 8 a))) b)
      = ∑ p : Fin cfg0.N, ∑ k : Fin 32, ∑ a : Fin 8,
        (∑ b : Fin 2048, square m c (row p (inBlock k (Fin.castAdd 8 a))) b
          + ∑ b : Fin 2048, square m c (row p (inBlock k (Fin.natAdd 8 a))) b) := by
        simp only [← Finset.sum_add_distrib]
        simp only [Finset.sum_comm (s := (Finset.univ : Finset (Fin 2048))) (t := (Finset.univ : Finset (Fin cfg0.N))),
          Finset.sum_comm (s := (Finset.univ : Finset (Fin 2048))) (t := (Finset.univ : Finset (Fin 32))),
          Finset.sum_comm (s := (Finset.univ : Finset (Fin 8))) (t := (Finset.univ : Finset (Fin cfg0.N))),
          Finset.sum_comm (s := (Finset.univ : Finset (Fin 8))) (t := (Finset.univ : Finset (Fin 32)))]
    _ = ∑ p : Fin cfg0.N, ∑ k : Fin 32, ∑ a : Fin 16, ∑ b : Fin 2048, square m c (row p (inBlock k a)) b :=
        Fin.sum_fin_congr fun p => Fin.sum_fin_congr fun k => by
          rw [Finset.sum_add_distrib]
          exact (Fin.sum_univ_add fun a : Fin (8 + 8) => ∑ b : Fin 2048, square m c (row p (inBlock k a)) b).symm

end Cert.NormIdeal.Slices

end
-- ==== Proof.NormClaim.lean ====
module

public import proofs.«01_k».proof.Defs
public import proofs.«01_k».proof.Proof.NormValue
public import proofs.«01_k».proof.Proof.Gen.NormRefIdeal.Run
public import Idealize.ShloMosaic.Lib.IdealHost
public import Idealize.ShloMosaic.Lib.Quiescent

/-! The sum of squares by the host, over the reals. -/

@[expose] public section

noncomputable section

namespace Cert.NormRefIdeal

open Cert.NormRefIdeal Cert.NormRefIdeal.Gen Idealize.ShloMosaic Idealize.ShloMosaic.TcCoe Idealize.SL.Sem

/-- The host's sum over both axes is the sum over rows of the sums over columns. -/
theorem sum_squares (g : S37376x2048.Idx → EReal) (i : S8x128.Idx) :
    (broadcastInDim S8x128 ![] bcast_S_S8x128 (Host.reduceAdd (F := Ideal) (φ := .f32) (mulf (extf .f32 (g : FVec Ideal S37376x2048 .bf16) bitsLt_bf16_f32) (extf .f32 (g : FVec Ideal S37376x2048 .bf16) bitsLt_bf16_f32)) (constant S_ .f32 0x00000000#32) reducesTo_S37376x2048_S_d0_1 h_S_) : FVec Ideal S8x128 .f32) i
      = ∑ R : Fin 37376, ∑ j : Fin 2048, g (ix2 R j) * g (ix2 R j) := by
  rw [ValueIdx.broadcastInDim_scalar_apply, ValueIdx.hostReduceAdd_apply, Ideal.hostReduceAdd_total _ (fun b => b.elim0)]
  refine (congrArg (· + _) Ideal.ofBits_zero_f32).trans ((zero_add _).trans ?_)
  refine Eq.trans (Finset.sum_congr rfl fun y _ => ?_) (Fin.sum_idx2 ![37376, 2048] fun R j => g (ix2 R j) * g (ix2 R j))
  obtain ⟨a, b, rfl⟩ : ∃ a b, y = ix2 a b := ⟨_, _, eq_ix2 (n0 := 37376) (n1 := 2048) y⟩
  rfl

end Cert.NormRefIdeal

namespace Cert.Proof

open Idealize.ShloMosaic Idealize.ShloMosaic.TcCoe Idealize.SL.Sem

/-- The host's sum ends with every counter at zero and its argument unchanged. -/
theorem frame_norm_reference : Cert.quiescent_NormRefIdeal (hNormRefIdeal := Cert.NormRefIdeal.Gen.facts) := fun m ρ _ =>
  (θ_run Cert.NormRefIdeal.defs _ _).mono
    (fun r h => ⟨fun c => (h c).2, Idealize.ShloMosaic.sem_eq_zero_of_no_sems (by decide) r.2⟩)
    (Cert.NormRefIdeal.Value.run (F := Ideal) m ρ)

/-- The kernel's sum of squares is the host's. -/
theorem algebraic_norm : Cert.algebraic_NormIdeal_NormRefIdeal (hNormIdeal := Cert.NormIdeal.Gen.facts)
    (hNormRefIdeal := Cert.NormRefIdeal.Gen.facts) := by
  intro m ρ m' ρ' _ hagree
  refine ⟨fun c => Cert.NormIdeal.Value.G1 m c, Cert.NormIdeal.Value.run m ρ, ?_⟩
  refine (θ_run Cert.NormRefIdeal.defs _ _).mono (fun r h c => ⟨(h c).1.trans (funext fun i => ?_), (h c).2⟩)
    (Cert.NormRefIdeal.Value.run (F := Ideal) m' ρ')
  rw [hagree c]
  exact (Cert.NormRefIdeal.sum_squares _ i).trans (Cert.NormIdeal.Slices.norm_array m c i).symm

end Cert.Proof

end
-- ==== Proof.Tile.lean ====
module

public import proofs.«01_k».proof.Proof.Gen.UpdateIdeal.Skeleton
public import Idealize.ShloMosaic.Lib.Pipeline.Value

/-! One 128 × 128 tile of the update, as the kernel's body computes it from the values it loads, and the
list of the 32 tiles of the parameter update a block of 256 rows stores. -/

@[expose] public section

noncomputable section

namespace Cert.UpdateIdeal.Tile

open Cert.UpdateIdeal Cert.UpdateIdeal.Gen Idealize.ShloMosaic Idealize.ShloMosaic.TcCoe Idealize.SL.Sem

variable {F : FTy → Type} [FloatOps F] [Named F]

/-- The decayed scales of two neighbouring groups spread over their 256 columns: rows 0–127 hold the first
moment's scales, rows 128–255 the second moment's. -/
def wideT (ms vs : Vec F S16x128 .f32) (e : Vec F S48x256 .bf16) : FVec F S256x256 .f32 := k0_pay16 (k0_pay14 ms) vs e

/-- The new first moment on a tile, from the clip row `cm`, the tile's spread scales, its gradient and codes. -/
def mT (cm : FVec F S1x128 .f32) (w : FVec F S128x128 .f32) (g : Vec F S128x128 .bf16) (mc : Vec F S128x128 .fp8e4m3) :
    FVec F S128x128 .f32 :=
  addf (mulf (extf .f32 (shapeCast S128x128 mc shapeCasts_S128x128_S128x128) bitsLt_fp8e4m3_f32) w)
    (mulf (extf .f32 g bitsLt_bf16_f32) (broadcastTo S128x128 cm broadcasts_S1x128_S128x128))

/-- The new second moment on a tile. -/
def vT (cv : FVec F S1x128 .f32) (w : FVec F S128x128 .f32) (g : Vec F S128x128 .bf16) (vc : Vec F S128x128 .fp8e5m2) :
    FVec F S128x128 .f32 :=
  addf (mulf (extf .f32 (shapeCast S128x128 vc shapeCasts_S128x128_S128x128) bitsLt_fp8e5m2_f32) w)
    (mulf (mulf (extf .f32 g bitsLt_bf16_f32) (broadcastTo S128x128 cv broadcasts_S1x128_S128x128))
      (mulf (extf .f32 g bitsLt_bf16_f32) (broadcastTo S128x128 cv broadcasts_S1x128_S128x128)))

/-- What the body loads: the step, the squared norm, and by chunk of 128 rows (and group, or pair of groups) the
tiles of the other operands. -/
structure Loads (F : FTy → Type) where
  step : Elt F .i32
  gsum : Vec F S8x128 .f32
  p : Fin 2 → Fin 16 → Vec F S128x128 .f32
  g : Fin 2 → Fin 16 → Vec F S128x128 .bf16
  mc : Fin 2 → Fin 16 → Vec F S128x128 .fp8e4m3
  ms : Fin 2 → Vec F S16x128 .f32
  vc : Fin 2 → Fin 16 → Vec F S128x128 .fp8e5m2
  vs : Fin 2 → Vec F S16x128 .f32
  e : Fin 8 → Vec F S48x256 .bf16

/-- The pair of groups a group belongs to. -/
def pair (q : Fin 16) : Fin 8 := ⟨q.val / 2, by omega⟩

theorem slices_wide (a b : Fin 2) : S256x256.Slices ![128 * a.val, 128 * b.val] S128x128 := by
  revert a b; decide

/-- The tile of the new first moment at chunk `r` and group `q`. -/
def mAt (L : Loads F) (r : Fin 2) (q : Fin 16) : FVec F S128x128 .f32 :=
  mT (k0_pay10 L.gsum) (extractStridedSlice S128x128 ![128 * (0 : Fin 2).val, 128 * (⟨q.val % 2, by omega⟩ : Fin 2).val]
    (wideT (L.ms r) (L.vs r) (L.e (pair q))) (slices_wide 0 ⟨q.val % 2, by omega⟩)) (L.g r q) (L.mc r q)

/-- The tile of the new second moment at chunk `r` and group `q`. -/
def vAt (L : Loads F) (r : Fin 2) (q : Fin 16) : FVec F S128x128 .f32 :=
  vT (k0_pay11 L.gsum) (extractStridedSlice S128x128 ![128 * (1 : Fin 2).val, 128 * (⟨q.val % 2, by omega⟩ : Fin 2).val]
    (wideT (L.ms r) (L.vs r) (L.e (pair q))) (slices_wide 1 ⟨q.val % 2, by omega⟩)) (L.g r q) (L.vc r q)

/-- The tile of the parameter update at chunk `r` and group `q`. -/
def dpAt (L : Loads F) (r : Fin 2) (q : Fin 16) : FVec F S128x128 .f32 :=
  k0_pay22 (k0_pay12 L.step) (k0_pay13 L.step) (mAt L r q) (vAt L r q) (L.p r q)

theorem inb_tile (r : Fin 2) (q : Fin 16) :
    ∀ a, (![128 * r.val, 128 * q.val] : Fin 2 → ℕ) a + S128x128.size a ≤ S256x2048.size a := by
  revert r q; decide

theorem inb_rows (r : Fin 2) : ∀ a, (![0, 128 * r.val] : Fin 2 → ℕ) a + S16x128.size a ≤ S16x256.size a := by
  revert r; decide

theorem inb_pair (b : Fin 8) : ∀ a, (![0, 256 * b.val] : Fin 2 → ℕ) a + S48x256.size a ≤ S48x2048.size a := by
  revert b; decide

/-- The rectangle of tile `(r, q)` in a block. -/
abbrev tile (r : Fin 2) (q : Fin 16) : Rect S256x2048 := Rect.unit ![128 * r.val, 128 * q.val] S128x128.size (inb_tile r q)
/-- The rectangle of chunk `r` in a block of scales. -/
abbrev rows (r : Fin 2) : Rect S16x256 := Rect.unit ![0, 128 * r.val] S16x128.size (inb_rows r)
/-- The rectangle of a pair of groups in the indicator matrix. -/
abbrev cols (b : Fin 8) : Rect S48x2048 := Rect.unit ![0, 256 * b.val] S48x256.size (inb_pair b)

/-- What the body loads of the point's blocks: the step's cell `x0`, the squared norms `x1`, the blocks of the other
operands, and the indicator columns `e`. -/
def ofBlocks (x0 : Vec F S1 .i32) (x1 : Vec F S8x128 .f32) (x2 : Vec F S256x2048 .f32) (x3 : Vec F S256x2048 .bf16)
    (x4 : Vec F S256x2048 .fp8e4m3) (x5 : Vec F S16x256 .f32) (x6 : Vec F S256x2048 .fp8e5m2) (x7 : Vec F S16x256 .f32)
    (e : Fin 8 → Vec F S48x256 .bf16) : Loads F where
  step := View.ld x0 (Rect.unit ![0] S1.size inb_S1_S1_0) (Shape.Idx.first (numel1_S1 ▸ Nat.one_pos))
  gsum := View.ld x1 (Rect.unit ![0, 0] S8x128.size inb_S8x128_S8x128_0_0)
  p r q := View.ld x2 (tile r q)
  g r q := View.ld x3 (tile r q)
  mc r q := View.ld x4 (tile r q)
  ms r := View.ld x5 (rows r)
  vc r q := View.ld x6 (tile r q)
  vs r := View.ld x7 (rows r)
  e := e

/-- The tiles of a block, last stored first. -/
def order : List (Fin 2 × Fin 16) := [1, 0].flatMap fun r => (List.finRange 16).reverse.map fun q => (r, q)

/-- The 32 stores of the parameter update, last stored first. -/
def dpPieces (L : Loads F) : List (View.Piece (Elt F) S256x2048 .f32) :=
  order.map fun rq => ⟨tile rq.1 rq.2, dpAt L rq.1 rq.2⟩

end Cert.UpdateIdeal.Tile

end
-- ==== Proof.Stores.lean ====
module

public import proofs.«01_k».proof.Proof.Tile
public import proofs.«01_k».proof.Proof.Gen.UpdateIdeal.Frame
public import Idealize.ShloMosaic.Lib.Pipeline.ReadBack

/-! The stores the body makes at a point, as lists of tiles. -/

@[expose] public section

noncomputable section

namespace Cert.UpdateIdeal.Tile

open Cert.UpdateIdeal Cert.UpdateIdeal.Gen Idealize.ShloMosaic Idealize.ShloMosaic.TcCoe Idealize.SL.Sem

variable {F : FTy → Type} [FloatOps F] [Named F]

variable (c : Dev nD) (i : grid0.Coords)
    (arg1 : Memref sig .tc .smem S1 .i32) (harg1 : arg1.IsWhole)
    (arg2 : Memref sig .tc .vmem S8x128 .f32) (harg2 : arg2.IsWhole)
    (arg3 : Memref sig .tc .vmem S256x2048 .f32) (harg3 : arg3.IsWhole)
    (arg4 : Memref sig .tc .vmem S256x2048 .bf16) (harg4 : arg4.IsWhole)
    (arg5 : Memref sig .tc .vmem S256x2048 .fp8e4m3) (harg5 : arg5.IsWhole)
    (arg6 : Memref sig .tc .vmem S16x256 .f32) (harg6 : arg6.IsWhole)
    (arg7 : Memref sig .tc .vmem S256x2048 .fp8e5m2) (harg7 : arg7.IsWhole)
    (arg8 : Memref sig .tc .vmem S16x256 .f32) (harg8 : arg8.IsWhole)
    (arg9 : Memref sig .tc .vmem S256x2048 .f32) (harg9 : arg9.IsWhole)
    (arg10 : Memref sig .tc .vmem S256x2048 .fp8e4m3) (harg10 : arg10.IsWhole)
    (arg11 : Memref sig .tc .vmem S16x256 .f32) (harg11 : arg11.IsWhole)
    (arg12 : Memref sig .tc .vmem S256x2048 .fp8e5m2) (harg12 : arg12.IsWhole)
    (arg13 : Memref sig .tc .vmem S16x256 .f32) (harg13 : arg13.IsWhole)
    (arg14 : Memref sig .tc .vmem S48x2048 .bf16) (harg14 : arg14.IsWhole)
    (arg15 : Memref sig .tc .vmem S128x2048 .f32) (harg15 : arg15.IsWhole)
    (arg16 : Memref sig .tc .vmem S128x2048 .f32) (harg16 : arg16.IsWhole)
  (x0 : Vec F S1 .i32) (x1 : Vec F S8x128 .f32) (x2 : Vec F S256x2048 .f32) (x3 : Vec F S256x2048 .bf16) (x4 : Vec F S256x2048 .fp8e4m3) (x5 : Vec F S16x256 .f32) (x6 : Vec F S256x2048 .fp8e5m2) (x7 : Vec F S16x256 .f32)

/-- After the first point the indicator columns are those of the matrix `xs0` the scratch carries. -/
theorem dp_stores_B (hc0 : ¬cond0_0 i) (xs0 : Vec F S48x2048 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).1
      = dpPieces (ofBlocks x0 x1 x2 x3 x4 x5 x6 x7 fun b => View.ld xs0 (cols b)) := by
  have h : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).1
      = dpPieces (ofBlocks (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) fun b => View.ld (arg14.view.read (Elt F) (harg14.unread xs0)) (cols b)) := by
    sl_kernel_rfl
  simpa only [Memref.IsWhole.read_unread] using h

/-- The indicator matrix the first point stores. -/
def indicator : Vec F S48x2048 .bf16 := k0_pay6 k0_pay3 k0_pay4 k0_pay5

/-- At the first point the indicator columns are read back from the matrix just stored. -/
theorem dp_stores_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).1
      = dpPieces (ofBlocks x0 x1 x2 x3 x4 x5 x6 x7 fun b => View.ld indicator (cols b)) := by
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).1
      = dpPieces (ofBlocks (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) fun b => arg14.view.readCov
          [⟨Rect.unit ![0, 0] S48x2048.size inb_S48x2048_S48x2048_0_0, indicator⟩] (cols b).toLoadRect) := by
    sl_kernel_rfl
  have he : (fun b => arg14.view.readCov
        [⟨Rect.unit ![0, 0] S48x2048.size inb_S48x2048_S48x2048_0_0, (indicator : Vec F S48x2048 .bf16)⟩] (cols b).toLoadRect)
      = fun b => View.ld (indicator : Vec F S48x2048 .bf16) (cols b) :=
    funext fun b => View.readCov_fill _ _ _ _ _ (by decide)
  rw [he] at h
  simpa only [Memref.IsWhole.read_unread] using h

/-- What the first point leaves in the indicator scratch. -/
theorem indicator_stores_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.1
      = [⟨Rect.unit ![0, 0] S48x2048.size inb_S48x2048_S48x2048_0_0, indicator⟩] := by
  sl_kernel_rfl

end Cert.UpdateIdeal.Tile

end
-- ==== Proof.Outs.lean ====
module

public import proofs.«01_k».proof.Proof.Stores

/-! What every point of the grid leaves: the indicator matrix stays in its scratch, and the block of the parameter
update is the 32 tiles of that point's operand blocks. -/

@[expose] public section

noncomputable section

namespace Cert.UpdateIdeal.Tile

open Cert.UpdateIdeal Cert.UpdateIdeal.Gen Idealize.ShloMosaic Idealize.ShloMosaic.TcCoe Idealize.SL.Sem

variable {F : FTy → Type} [FloatOps F] [Named F] [∀ e, Nonempty (Elt F e)]

variable (m : (ℓ : Loc nD τ sig) → Buf (Elt F) ℓ) (c : Dev nD)

/-- The first point fills the indicator scratch and the later ones leave it. -/
theorem carried : ∀ (n : ℕ) (hn : n < cfg0.N), (outsAt0 m c n hn).2.2.2.2.2 = indicator := by
  intro n
  induction n with
  | zero =>
    intro hn
    rw [show outsAt0 m c 0 hn = _ from outsAt0_A m c ⟨0, hn⟩ (Nat.zero_mod _)]
    dsimp only
    unfold sout0_A_0
    rw [View.read_writes_eq_canon _ _ _ (scover0_A_0 c _ _ _ _ _ _ _ _ _ _ _ _ _ _ _ _ _ _ _ _ _ _ _ _ _ _ _ _ _ _ _ _ _ _ _ _ _ _ _ _ _ _),
      indicator_stores_A]
    exact View.canon_cons_unit_lit _ _ _ (by decide)
  | succ n ih =>
    intro hn
    have hN := lt_of_lt_of_eq hn (show cfg0.N = 146 from N_0)
    have h0 : ¬ (⟨n + 1, hn⟩ : Fin cfg0.N).val % 146 = 0 := by show ¬ (n + 1) % 146 = 0; omega
    rw [show outsAt0 m c (n + 1) hn = _ from outsAt0_B m c ⟨n + 1, hn⟩ h0]
    exact ih _

/-- What the body loads at point `t`, the indicator columns read off the indicator matrix. -/
def loads (t : Fin cfg0.N) : Loads F :=
  ofBlocks (iblk m c 0 t) (iblk m c 1 t) (iblk m c 2 t) (iblk m c 3 t) (iblk m c 4 t) (iblk m c 5 t) (iblk m c 6 t)
    (iblk m c 7 t) fun b => View.ld indicator (cols b)

theorem mem_order (r : Fin 2) (q : Fin 16) : (r, q) ∈ order := by
  revert r q; decide

/-- The 32 tiles cover the block. -/
theorem cover_tiles (L : Loads F) (y : S256x2048.Idx) : ∃ p ∈ dpPieces L, y ∈ p.1.set := by
  have h0 : (y 0).val < 256 := (y 0).isLt
  have h1 : (y 1).val < 2048 := (y 1).isLt
  let r : Fin 2 := ⟨(y 0).val / 128, by omega⟩
  let q : Fin 16 := ⟨(y 1).val / 128, by omega⟩
  refine ⟨⟨tile r q, dpAt L r q⟩, List.mem_map.mpr ⟨(r, q), mem_order r q, rfl⟩, ?_⟩
  show y ∈ (tile r q).set
  refine (Rect.mem_set_unit (inb := inb_tile r q)).mpr fun a => ?_
  match a with
  | ⟨0, _⟩ => exact ⟨show 128 * ((y 0).val / 128) ≤ (y 0).val by omega, show (y 0).val < 128 * ((y 0).val / 128) + 128 by omega⟩
  | ⟨1, _⟩ => exact ⟨show 128 * ((y 1).val / 128) ≤ (y 1).val by omega, show (y 1).val < 128 * ((y 1).val / 128) + 128 by omega⟩

/-- The block of the parameter update after point `t`. -/
theorem dp_out (t : Fin cfg0.N) : (outsAt0 m c t.val t.isLt).1 = View.canon (dpPieces (loads m c t)) := by
  by_cases h0 : t.val % 146 = 0
  · rw [outsAt0_A m c t h0]
    dsimp only
    unfold out0_A_8
    rw [dp_stores_A, View.read_writes_eq_canon _ _ _ (cover_tiles _)]
    rfl
  · rw [outsAt0_B m c t h0]
    dsimp only
    unfold out0_B_8
    rw [dp_stores_B, View.read_writes_eq_canon _ _ _ (cover_tiles _), carried]
    rfl

end Cert.UpdateIdeal.Tile

end
-- ==== Proof.Quant.lean ====
module

public import proofs.«01_k».proof.Proof.Tile

/-! The quantiser as the kernel's body computes it: the greatest magnitudes of the groups of a chunk of 128 rows, the
scales and inverses made of them, and the codes, a pair of groups at a time. -/

@[expose] public section

noncomputable section

namespace Cert.UpdateIdeal.Tile

open Cert.UpdateIdeal Cert.UpdateIdeal.Gen Idealize.ShloMosaic Idealize.ShloMosaic.TcCoe Idealize.SL.Sem

variable {F : FTy → Type} [FloatOps F] [Named F]

/-- One row per group, put on top of one another. -/
def stack (f : Fin 16 → FVec F S1x128 .bf16) : FVec F S16x128 .f32 :=
  extf .f32 (concatenate S16x128 0 [⟨S1x128, f 0⟩, ⟨S1x128, f 1⟩, ⟨S1x128, f 2⟩, ⟨S1x128, f 3⟩, ⟨S1x128, f 4⟩, ⟨S1x128, f 5⟩,
    ⟨S1x128, f 6⟩, ⟨S1x128, f 7⟩, ⟨S1x128, f 8⟩, ⟨S1x128, f 9⟩, ⟨S1x128, f 10⟩, ⟨S1x128, f 11⟩, ⟨S1x128, f 12⟩, ⟨S1x128, f 13⟩,
    ⟨S1x128, f 14⟩, ⟨S1x128, f 15⟩]
    concatenates_S1x128_S1x128_S1x128_S1x128_S1x128_S1x128_S1x128_S1x128_S1x128_S1x128_S1x128_S1x128_S1x128_S1x128_S1x128_S1x128_S16x128_d0)
    bitsLt_bf16_f32

/-- The multiplied greatest magnitudes of the groups of chunk `r`, of the first moment and of the second. -/
def topM (L : Loads F) (r : Fin 2) : FVec F S16x128 .f32 := stack fun q => k0_pay23 (mAt L r q)
def topV (L : Loads F) (r : Fin 2) : FVec F S16x128 .f32 := stack fun q => k0_pay24 (vAt L r q)

/-- The scales made of the multiplied magnitudes, and their inverses. -/
def scaleT (y : FVec F S16x128 .f32) : FVec F S16x128 .f32 := k0_pay374 (k0_pay372 y k0_pay367 k0_pay368 k0_pay369)
def invT (y : FVec F S16x128 .f32) : FVec F S16x128 .f32 :=
  k0_pay375 (k0_pay371 y k0_pay367 k0_pay368 k0_pay369) (k0_pay373 y k0_pay367 k0_pay368 k0_pay369) 1065353216#32

/-- The inverses of chunk `r`, the first moment's in columns 0–127 and the second moment's in columns 128–255. -/
def invs (L : Loads F) (r : Fin 2) : FVec F S16x256 .bf16 :=
  truncf .bf16 (concatenate S16x256 1 [⟨S16x128, invT (topM L r)⟩, ⟨S16x128, invT (topV L r)⟩] concatenates_S16x128_S16x128_S16x256_d1)
    bitsLt_bf16_f32

theorem inb_strip (q : Fin 16) : ∀ a, (![0, 128 * q.val] : Fin 2 → ℕ) a + S128x128.size a ≤ S128x2048.size a := by
  revert q; decide

theorem inb_strips (b : Fin 8) : ∀ a, (![0, 256 * b.val] : Fin 2 → ℕ) a + S128x256.size a ≤ S128x2048.size a := by
  revert b; decide

theorem inb_group (b : Fin 8) : ∀ a, (![0, 256 * b.val] : Fin 2 → ℕ) a + S16x256.size a ≤ S48x2048.size a := by
  revert b; decide

theorem inb_code (r : Fin 2) (b : Fin 8) :
    ∀ a, (![128 * r.val, 256 * b.val] : Fin 2 → ℕ) a + S128x256.size a ≤ S256x2048.size a := by
  revert r b; decide

/-- The rectangle of a group, and of a pair of groups, in the scratch that holds a chunk's new moment. -/
abbrev strip (q : Fin 16) : Rect S128x2048 := Rect.unit ![0, 128 * q.val] S128x128.size (inb_strip q)
abbrev strips (b : Fin 8) : Rect S128x2048 := Rect.unit ![0, 256 * b.val] S128x256.size (inb_strips b)
/-- The rectangle of a pair of groups in the first 16 rows of the indicator matrix. -/
abbrev spread (b : Fin 8) : Rect S48x2048 := Rect.unit ![0, 256 * b.val] S16x256.size (inb_group b)
/-- The rectangle of chunk `r` and a pair of groups in a block. -/
abbrev code (r : Fin 2) (b : Fin 8) : Rect S256x2048 := Rect.unit ![128 * r.val, 256 * b.val] S128x256.size (inb_code r b)

/-- The stores of a chunk's tiles `f` in its scratch, last stored first. -/
def stripPieces (f : Fin 16 → FVec F S128x128 .f32) : List (View.Piece (Elt F) S128x2048 .f32) :=
  (List.finRange 16).reverse.map fun q => ⟨strip q, k0_pay20 (f q)⟩

/-- The stores in the scratch by the end of chunk `r`. -/
def scratch (f : Fin 2 → Fin 16 → FVec F S128x128 .f32) : Fin 2 → List (View.Piece (Elt F) S128x2048 .f32)
  | 0 => stripPieces (f 0)
  | 1 => stripPieces (f 1) ++ stripPieces (f 0)

/-- The two stores of the scales, last stored first. -/
def scalePieces (f : Fin 2 → FVec F S16x128 .f32) : List (View.Piece (Elt F) S16x256 .f32) :=
  [⟨rows 1, scaleT (f 1)⟩, ⟨rows 0, scaleT (f 0)⟩]

/-- The pairs of groups of a block, last stored first. -/
def pairs : List (Fin 2 × Fin 8) := [1, 0].flatMap fun r => (List.finRange 8).reverse.map fun b => (r, b)

/-- The 16 stores of the first moment's codes, last stored first: `k` is the indicator matrix's pairs of groups and `x` the
new moment's. -/
def codeMPieces (L : Loads F) (k : Fin 8 → Vec F S16x256 .bf16) (x : Fin 2 → Fin 8 → Vec F S128x256 .f32) :
    List (View.Piece (Elt F) S256x2048 .fp8e4m3) :=
  pairs.map fun rb => ⟨code rb.1 rb.2, k0_pay384 (invs L rb.1) (k rb.2) (x rb.1 rb.2)⟩

/-- The 16 stores of the second moment's codes. -/
def codeVPieces (L : Loads F) (k : Fin 8 → Vec F S16x256 .bf16) (x : Fin 2 → Fin 8 → Vec F S128x256 .f32) :
    List (View.Piece (Elt F) S256x2048 .fp8e5m2) :=
  pairs.map fun rb => ⟨code rb.1 rb.2, k0_pay385 (invs L rb.1) (k rb.2) (x rb.1 rb.2)⟩

end Cert.UpdateIdeal.Tile

end
-- ==== Proof.QuantStoresA.lean ====
module

public import proofs.«01_k».proof.Proof.Quant
public import proofs.«01_k».proof.Proof.Stores
public import proofs.«01_k».proof.Proof.Gen.UpdateIdeal.Frame
public import Idealize.ShloMosaic.Lib.Pipeline.ReadBack

/-! The stores of the quantiser's results the body makes at the first point, as lists of tiles. -/

@[expose] public section

noncomputable section

namespace Cert.UpdateIdeal.Tile

open Cert.UpdateIdeal Cert.UpdateIdeal.Gen Idealize.ShloMosaic Idealize.ShloMosaic.TcCoe Idealize.SL.Sem

variable {F : FTy → Type} [FloatOps F] [Named F]

omit [Named F] in
theorem cols_fill (v : View sig .tc .vmem S48x2048 .bf16) (x : Vec F S48x2048 .bf16) : (fun b => v.readCov
    [⟨Rect.unit ![0, 0] S48x2048.size inb_S48x2048_S48x2048_0_0, x⟩] (cols b).toLoadRect) = fun b => View.ld x (cols b) :=
  funext fun b => View.readCov_fill _ _ _ _ _ (by decide)

omit [Named F] in
theorem spread_fill (v : View sig .tc .vmem S48x2048 .bf16) (x : Vec F S48x2048 .bf16) : (fun b => v.readCov
    [⟨Rect.unit ![0, 0] S48x2048.size inb_S48x2048_S48x2048_0_0, x⟩] (spread b).toLoadRect) = fun b => View.ld x (spread b) :=
  funext fun b => View.readCov_fill _ _ _ _ _ (by decide)

variable (c : Dev nD) (i : grid0.Coords)
    (arg1 : Memref sig .tc .smem S1 .i32) (harg1 : arg1.IsWhole)
    (arg2 : Memref sig .tc .vmem S8x128 .f32) (harg2 : arg2.IsWhole)
    (arg3 : Memref sig .tc .vmem S256x2048 .f32) (harg3 : arg3.IsWhole)
    (arg4 : Memref sig .tc .vmem S256x2048 .bf16) (harg4 : arg4.IsWhole)
    (arg5 : Memref sig .tc .vmem S256x2048 .fp8e4m3) (harg5 : arg5.IsWhole)
    (arg6 : Memref sig .tc .vmem S16x256 .f32) (harg6 : arg6.IsWhole)
    (arg7 : Memref sig .tc .vmem S256x2048 .fp8e5m2) (harg7 : arg7.IsWhole)
    (arg8 : Memref sig .tc .vmem S16x256 .f32) (harg8 : arg8.IsWhole)
    (arg9 : Memref sig .tc .vmem S256x2048 .f32) (harg9 : arg9.IsWhole)
    (arg10 : Memref sig .tc .vmem S256x2048 .fp8e4m3) (harg10 : arg10.IsWhole)
    (arg11 : Memref sig .tc .vmem S16x256 .f32) (harg11 : arg11.IsWhole)
    (arg12 : Memref sig .tc .vmem S256x2048 .fp8e5m2) (harg12 : arg12.IsWhole)
    (arg13 : Memref sig .tc .vmem S16x256 .f32) (harg13 : arg13.IsWhole)
    (arg14 : Memref sig .tc .vmem S48x2048 .bf16) (harg14 : arg14.IsWhole)
    (arg15 : Memref sig .tc .vmem S128x2048 .f32) (harg15 : arg15.IsWhole)
    (arg16 : Memref sig .tc .vmem S128x2048 .f32) (harg16 : arg16.IsWhole)
  (x0 : Vec F S1 .i32) (x1 : Vec F S8x128 .f32) (x2 : Vec F S256x2048 .f32) (x3 : Vec F S256x2048 .bf16) (x4 : Vec F S256x2048 .fp8e4m3) (x5 : Vec F S16x256 .f32) (x6 : Vec F S256x2048 .fp8e5m2) (x7 : Vec F S16x256 .f32)

theorem codeM_stores_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1
      = codeMPieces (ofBlocks x0 x1 x2 x3 x4 x5 x6 x7 (fun b => View.ld indicator (cols b))) (fun b => View.ld indicator (spread b))
          fun r b => arg15.view.readCov (scratch (mAt (ofBlocks x0 x1 x2 x3 x4 x5 x6 x7 (fun b => View.ld indicator (cols b)))) r) (strips b).toLoadRect := by
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1
      = codeMPieces (ofBlocks (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7))
          (fun b => arg14.view.readCov
          [⟨Rect.unit ![0, 0] S48x2048.size inb_S48x2048_S48x2048_0_0, indicator⟩] (cols b).toLoadRect)) (fun b => arg14.view.readCov
          [⟨Rect.unit ![0, 0] S48x2048.size inb_S48x2048_S48x2048_0_0, indicator⟩] (spread b).toLoadRect)
          fun r b => arg15.view.readCov (scratch (mAt (ofBlocks (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7))
          (fun b => arg14.view.readCov
          [⟨Rect.unit ![0, 0] S48x2048.size inb_S48x2048_S48x2048_0_0, indicator⟩] (cols b).toLoadRect))) r) (strips b).toLoadRect := by
    sl_kernel_rfl
  rw [cols_fill, spread_fill] at h
  simpa only [Memref.IsWhole.read_unread] using h

theorem scaleM_stores_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1
      = scalePieces (topM (ofBlocks x0 x1 x2 x3 x4 x5 x6 x7 (fun b => View.ld indicator (cols b)))) := by
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1
      = scalePieces (topM (ofBlocks (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7))
          (fun b => arg14.view.readCov
          [⟨Rect.unit ![0, 0] S48x2048.size inb_S48x2048_S48x2048_0_0, indicator⟩] (cols b).toLoadRect))) := by
    sl_kernel_rfl
  rw [cols_fill] at h
  simpa only [Memref.IsWhole.read_unread] using h

set_option maxHeartbeats 2000000 in
theorem codeV_stores_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1
      = codeVPieces (ofBlocks x0 x1 x2 x3 x4 x5 x6 x7 (fun b => View.ld indicator (cols b))) (fun b => View.ld indicator (spread b))
          fun r b => arg16.view.readCov (scratch (vAt (ofBlocks x0 x1 x2 x3 x4 x5 x6 x7 (fun b => View.ld indicator (cols b)))) r) (strips b).toLoadRect := by
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1
      = codeVPieces (ofBlocks (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7))
          (fun b => arg14.view.readCov
          [⟨Rect.unit ![0, 0] S48x2048.size inb_S48x2048_S48x2048_0_0, indicator⟩] (cols b).toLoadRect)) (fun b => arg14.view.readCov
          [⟨Rect.unit ![0, 0] S48x2048.size inb_S48x2048_S48x2048_0_0, indicator⟩] (spread b).toLoadRect)
          fun r b => arg16.view.readCov (scratch (vAt (ofBlocks (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7))
          (fun b => arg14.view.readCov
          [⟨Rect.unit ![0, 0] S48x2048.size inb_S48x2048_S48x2048_0_0, indicator⟩] (cols b).toLoadRect))) r) (strips b).toLoadRect := by
    sl_kernel_rfl
  rw [cols_fill, spread_fill] at h
  simpa only [Memref.IsWhole.read_unread] using h

set_option maxHeartbeats 2000000 in
theorem scaleV_stores_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.1
      = scalePieces (topV (ofBlocks x0 x1 x2 x3 x4 x5 x6 x7 (fun b => View.ld indicator (cols b)))) := by
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.1
      = scalePieces (topV (ofBlocks (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7))
          (fun b => arg14.view.readCov
          [⟨Rect.unit ![0, 0] S48x2048.size inb_S48x2048_S48x2048_0_0, indicator⟩] (cols b).toLoadRect))) := by
    sl_kernel_rfl
  rw [cols_fill] at h
  simpa only [Memref.IsWhole.read_unread] using h

end Cert.UpdateIdeal.Tile

end
-- ==== Proof.QuantStoresB.lean ====
module

public import proofs.«01_k».proof.Proof.Quant
public import proofs.«01_k».proof.Proof.Gen.UpdateIdeal.Frame
public import Idealize.ShloMosaic.Lib.Pipeline.ReadBack

/-! The stores of the quantiser's results the body makes at a point after the first, as lists of tiles. -/

@[expose] public section

noncomputable section

namespace Cert.UpdateIdeal.Tile

open Cert.UpdateIdeal Cert.UpdateIdeal.Gen Idealize.ShloMosaic Idealize.ShloMosaic.TcCoe Idealize.SL.Sem

variable {F : FTy → Type} [FloatOps F] [Named F]

variable (c : Dev nD) (i : grid0.Coords)
    (arg1 : Memref sig .tc .smem S1 .i32) (harg1 : arg1.IsWhole)
    (arg2 : Memref sig .tc .vmem S8x128 .f32) (harg2 : arg2.IsWhole)
    (arg3 : Memref sig .tc .vmem S256x2048 .f32) (harg3 : arg3.IsWhole)
    (arg4 : Memref sig .tc .vmem S256x2048 .bf16) (harg4 : arg4.IsWhole)
    (arg5 : Memref sig .tc .vmem S256x2048 .fp8e4m3) (harg5 : arg5.IsWhole)
    (arg6 : Memref sig .tc .vmem S16x256 .f32) (harg6 : arg6.IsWhole)
    (arg7 : Memref sig .tc .vmem S256x2048 .fp8e5m2) (harg7 : arg7.IsWhole)
    (arg8 : Memref sig .tc .vmem S16x256 .f32) (harg8 : arg8.IsWhole)
    (arg9 : Memref sig .tc .vmem S256x2048 .f32) (harg9 : arg9.IsWhole)
    (arg10 : Memref sig .tc .vmem S256x2048 .fp8e4m3) (harg10 : arg10.IsWhole)
    (arg11 : Memref sig .tc .vmem S16x256 .f32) (harg11 : arg11.IsWhole)
    (arg12 : Memref sig .tc .vmem S256x2048 .fp8e5m2) (harg12 : arg12.IsWhole)
    (arg13 : Memref sig .tc .vmem S16x256 .f32) (harg13 : arg13.IsWhole)
    (arg14 : Memref sig .tc .vmem S48x2048 .bf16) (harg14 : arg14.IsWhole)
    (arg15 : Memref sig .tc .vmem S128x2048 .f32) (harg15 : arg15.IsWhole)
    (arg16 : Memref sig .tc .vmem S128x2048 .f32) (harg16 : arg16.IsWhole)
  (x0 : Vec F S1 .i32) (x1 : Vec F S8x128 .f32) (x2 : Vec F S256x2048 .f32) (x3 : Vec F S256x2048 .bf16) (x4 : Vec F S256x2048 .fp8e4m3) (x5 : Vec F S16x256 .f32) (x6 : Vec F S256x2048 .fp8e5m2) (x7 : Vec F S16x256 .f32)

theorem codeM_stores_B (hc0 : ¬cond0_0 i) (xs0 : Vec F S48x2048 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.1
      = codeMPieces (ofBlocks x0 x1 x2 x3 x4 x5 x6 x7 (fun b => View.ld xs0 (cols b))) (fun b => View.ld xs0 (spread b))
          fun r b => arg15.view.readCov (scratch (mAt (ofBlocks x0 x1 x2 x3 x4 x5 x6 x7 (fun b => View.ld xs0 (cols b)))) r) (strips b).toLoadRect := by
  have h : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.1
      = codeMPieces (ofBlocks (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7))
          (fun b => View.ld (arg14.view.read (Elt F) (harg14.unread xs0)) (cols b))) (fun b => View.ld (arg14.view.read (Elt F) (harg14.unread xs0)) (spread b))
          fun r b => arg15.view.readCov (scratch (mAt (ofBlocks (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7))
          (fun b => View.ld (arg14.view.read (Elt F) (harg14.unread xs0)) (cols b)))) r) (strips b).toLoadRect := by
    sl_kernel_rfl
  simpa only [Memref.IsWhole.read_unread] using h

theorem scaleM_stores_B (hc0 : ¬cond0_0 i) (xs0 : Vec F S48x2048 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.1
      = scalePieces (topM (ofBlocks x0 x1 x2 x3 x4 x5 x6 x7 (fun b => View.ld xs0 (cols b)))) := by
  have h : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.1
      = scalePieces (topM (ofBlocks (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7))
          (fun b => View.ld (arg14.view.read (Elt F) (harg14.unread xs0)) (cols b)))) := by
    sl_kernel_rfl
  simpa only [Memref.IsWhole.read_unread] using h

theorem codeV_stores_B (hc0 : ¬cond0_0 i) (xs0 : Vec F S48x2048 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.1
      = codeVPieces (ofBlocks x0 x1 x2 x3 x4 x5 x6 x7 (fun b => View.ld xs0 (cols b))) (fun b => View.ld xs0 (spread b))
          fun r b => arg16.view.readCov (scratch (vAt (ofBlocks x0 x1 x2 x3 x4 x5 x6 x7 (fun b => View.ld xs0 (cols b)))) r) (strips b).toLoadRect := by
  have h : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.1
      = codeVPieces (ofBlocks (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7))
          (fun b => View.ld (arg14.view.read (Elt F) (harg14.unread xs0)) (cols b))) (fun b => View.ld (arg14.view.read (Elt F) (harg14.unread xs0)) (spread b))
          fun r b => arg16.view.readCov (scratch (vAt (ofBlocks (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7))
          (fun b => View.ld (arg14.view.read (Elt F) (harg14.unread xs0)) (cols b)))) r) (strips b).toLoadRect := by
    sl_kernel_rfl
  simpa only [Memref.IsWhole.read_unread] using h

theorem scaleV_stores_B (hc0 : ¬cond0_0 i) (xs0 : Vec F S48x2048 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.2.1
      = scalePieces (topV (ofBlocks x0 x1 x2 x3 x4 x5 x6 x7 (fun b => View.ld xs0 (cols b)))) := by
  have h : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.2.1
      = scalePieces (topV (ofBlocks (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7))
          (fun b => View.ld (arg14.view.read (Elt F) (harg14.unread xs0)) (cols b)))) := by
    sl_kernel_rfl
  simpa only [Memref.IsWhole.read_unread] using h

end Cert.UpdateIdeal.Tile

end
-- ==== Proof.QuantOuts.lean ====
module

public import proofs.«01_k».proof.Proof.Outs
public import proofs.«01_k».proof.Proof.QuantStoresA
public import proofs.«01_k».proof.Proof.QuantStoresB

/-! What every point of the grid leaves in the blocks of the codes and the scales. -/

@[expose] public section

noncomputable section

namespace Cert.UpdateIdeal.Tile

open Cert.UpdateIdeal Cert.UpdateIdeal.Gen Idealize.ShloMosaic Idealize.ShloMosaic.TcCoe Idealize.SL.Sem

variable {F : FTy → Type} [FloatOps F] [Named F] [∀ e, Nonempty (Elt F e)]

variable (m : (ℓ : Loc nD τ sig) → Buf (Elt F) ℓ) (c : Dev nD)

theorem mem_pairs (r : Fin 2) (b : Fin 8) : (r, b) ∈ pairs := by
  revert r b; decide

theorem mem_code (y : S256x2048.Idx) : ∃ rb ∈ pairs, y ∈ (code rb.1 rb.2).set := by
  have h0 : (y 0).val < 256 := (y 0).isLt
  have h1 : (y 1).val < 2048 := (y 1).isLt
  let r : Fin 2 := ⟨(y 0).val / 128, by omega⟩
  let b : Fin 8 := ⟨(y 1).val / 256, by omega⟩
  refine ⟨(r, b), mem_pairs r b, ?_⟩
  show y ∈ (code r b).set
  refine (Rect.mem_set_unit (inb := inb_code r b)).mpr fun a => ?_
  match a with
  | ⟨0, _⟩ => exact ⟨show 128 * ((y 0).val / 128) ≤ (y 0).val by omega, show (y 0).val < 128 * ((y 0).val / 128) + 128 by omega⟩
  | ⟨1, _⟩ => exact ⟨show 256 * ((y 1).val / 256) ≤ (y 1).val by omega, show (y 1).val < 256 * ((y 1).val / 256) + 256 by omega⟩

/-- The 16 stores of a block's codes cover it. -/
theorem cover_codeM (L : Loads F) (k : Fin 8 → Vec F S16x256 .bf16) (x : Fin 2 → Fin 8 → Vec F S128x256 .f32) (y : S256x2048.Idx) :
    ∃ p ∈ codeMPieces L k x, y ∈ p.1.set := by
  obtain ⟨rb, h, hy⟩ := mem_code y
  exact ⟨_, List.mem_map.mpr ⟨rb, h, rfl⟩, hy⟩

theorem cover_codeV (L : Loads F) (k : Fin 8 → Vec F S16x256 .bf16) (x : Fin 2 → Fin 8 → Vec F S128x256 .f32) (y : S256x2048.Idx) :
    ∃ p ∈ codeVPieces L k x, y ∈ p.1.set := by
  obtain ⟨rb, h, hy⟩ := mem_code y
  exact ⟨_, List.mem_map.mpr ⟨rb, h, rfl⟩, hy⟩

/-- The two stores of a block's scales cover it. -/
theorem cover_scale (f : Fin 2 → FVec F S16x128 .f32) (y : S16x256.Idx) : ∃ p ∈ scalePieces f, y ∈ p.1.set := by
  have h0 : (y 0).val < 16 := (y 0).isLt
  have h1 : (y 1).val < 256 := (y 1).isLt
  by_cases h : (y 1).val < 128
  · refine ⟨_, List.mem_cons_of_mem _ (List.mem_singleton.2 rfl), ?_⟩
    refine (Rect.mem_set_unit (inb := inb_rows 0)).mpr fun a => ?_
    match a with
    | ⟨0, _⟩ => exact ⟨Nat.zero_le _, show (y 0).val < 0 + 16 by omega⟩
    | ⟨1, _⟩ => exact ⟨Nat.zero_le _, show (y 1).val < 0 + 128 by omega⟩
  · refine ⟨_, List.mem_cons_self, ?_⟩
    refine (Rect.mem_set_unit (inb := inb_rows 1)).mpr fun a => ?_
    match a with
    | ⟨0, _⟩ => exact ⟨Nat.zero_le _, show (y 0).val < 0 + 16 by omega⟩
    | ⟨1, _⟩ => exact ⟨show 128 ≤ (y 1).val by omega, show (y 1).val < 128 + 128 by omega⟩

/-- What the body reads back of its scratch in chunk `r`. -/
def kept (f : Fin 2 → Fin 16 → FVec F S128x128 .f32) (r : Fin 2) (b : Fin 8) : Vec F S128x256 .f32 :=
  fun j => View.canon (scratch f r) ((strips b).toLoadRect.idx j)

theorem kept_eq (v : View sig .tc .vmem S128x2048 .f32) (f : Fin 2 → Fin 16 → FVec F S128x128 .f32) :
    (fun r b => v.readCov (scratch f r) (strips b).toLoadRect) = kept f :=
  funext fun r => funext fun b => View.readCov_eq_canon' v (scratch f r) (strips b).toLoadRect

/-- The blocks of the codes and scales after point `t`. -/
theorem codeM_out (t : Fin cfg0.N) : (outsAt0 m c t.val t.isLt).2.1
    = View.canon (codeMPieces (loads m c t) (fun b => View.ld indicator (spread b)) (kept (mAt (loads m c t)))) := by
  by_cases h0 : t.val % 146 = 0
  · rw [outsAt0_A m c t h0]
    dsimp only
    unfold out0_A_9
    rw [codeM_stores_A, View.read_writes_eq_canon _ _ _ (cover_codeM _ _ _), kept_eq]
    rfl
  · rw [outsAt0_B m c t h0]
    dsimp only
    unfold out0_B_9
    rw [codeM_stores_B, View.read_writes_eq_canon _ _ _ (cover_codeM _ _ _), kept_eq, carried]
    rfl

theorem scaleM_out (t : Fin cfg0.N) : (outsAt0 m c t.val t.isLt).2.2.1 = View.canon (scalePieces (topM (loads m c t))) := by
  by_cases h0 : t.val % 146 = 0
  · rw [outsAt0_A m c t h0]
    dsimp only
    unfold out0_A_10
    rw [scaleM_stores_A, View.read_writes_eq_canon _ _ _ (cover_scale _)]
    rfl
  · rw [outsAt0_B m c t h0]
    dsimp only
    unfold out0_B_10
    rw [scaleM_stores_B, View.read_writes_eq_canon _ _ _ (cover_scale _), carried]
    rfl

theorem codeV_out (t : Fin cfg0.N) : (outsAt0 m c t.val t.isLt).2.2.2.1
    = View.canon (codeVPieces (loads m c t) (fun b => View.ld indicator (spread b)) (kept (vAt (loads m c t)))) := by
  by_cases h0 : t.val % 146 = 0
  · rw [outsAt0_A m c t h0]
    dsimp only
    unfold out0_A_11
    rw [codeV_stores_A, View.read_writes_eq_canon _ _ _ (cover_codeV _ _ _), kept_eq]
    rfl
  · rw [outsAt0_B m c t h0]
    dsimp only
    unfold out0_B_11
    rw [codeV_stores_B, View.read_writes_eq_canon _ _ _ (cover_codeV _ _ _), kept_eq, carried]
    rfl

theorem scaleV_out (t : Fin cfg0.N) : (outsAt0 m c t.val t.isLt).2.2.2.2.1 = View.canon (scalePieces (topV (loads m c t))) := by
  by_cases h0 : t.val % 146 = 0
  · rw [outsAt0_A m c t h0]
    dsimp only
    unfold out0_A_12
    rw [scaleV_stores_A, View.read_writes_eq_canon _ _ _ (cover_scale _)]
    rfl
  · rw [outsAt0_B m c t h0]
    dsimp only
    unfold out0_B_12
    rw [scaleV_stores_B, View.read_writes_eq_canon _ _ _ (cover_scale _), carried]
    rfl

end Cert.UpdateIdeal.Tile

end
-- ==== Proof.Exponent.lean ====
module

public import Idealize.ShloMosaic.PureOps.Ideal

/-! The exponent of a group's scale: the least integer whose power of two exceeds a number, or zero for a number below
the least normal power of two; and when two numbers a little apart have the same one. -/

@[expose] public section

noncomputable section

namespace Cert.Scale

/-- The logarithm to base two. -/
def lb (y : ℝ) : ℝ := Real.log y / Real.log 2

theorem log_two_pos : 0 < Real.log 2 := Real.log_pos one_lt_two

theorem le_lb {y : ℝ} {k : ℤ} (hy : 0 < y) : (k : ℝ) ≤ lb y ↔ (2 : ℝ) ^ k ≤ y := by
  rw [lb, le_div_iff₀ log_two_pos, ← Real.log_zpow, Real.log_le_log_iff (by positivity) hy]

theorem lb_lt {y : ℝ} {k : ℤ} (hy : 0 < y) : lb y < (k : ℝ) ↔ y < (2 : ℝ) ^ k := by
  rw [← not_le, le_lb hy, not_le]

/-- The exponent of the scale of a group whose greatest magnitude over the format's greatest number is `y`. -/
def expo (y : ℝ) : ℤ := if y < (2 : ℝ) ^ (-126 : ℤ) then 0 else ⌊lb y⌋ + 1

/-- The scale, and its inverse. -/
def scale (y : ℝ) : ℝ := (2 : ℝ) ^ expo y
def inv (y : ℝ) : ℝ := (2 : ℝ) ^ (-expo y)

theorem expo_small {y : ℝ} (h : y < (2 : ℝ) ^ (-126 : ℤ)) : expo y = 0 := if_pos h

theorem floor_logb {y : ℝ} {k : ℤ} (h0 : (2 : ℝ) ^ k ≤ y) (h1 : y < (2 : ℝ) ^ (k + 1)) : ⌊lb y⌋ = k := by
  have hy : 0 < y := lt_of_lt_of_le (by positivity) h0
  rw [Int.floor_eq_iff]
  constructor
  · exact (le_lb hy).2 h0
  · rw [← Int.cast_one, ← Int.cast_add]; exact (lb_lt hy).2 h1

theorem expo_of {y : ℝ} {k : ℤ} (hk : -126 ≤ k) (h0 : (2 : ℝ) ^ k ≤ y) (h1 : y < (2 : ℝ) ^ (k + 1)) : expo y = k + 1 := by
  have : ¬ y < (2 : ℝ) ^ (-126 : ℤ) := not_lt.2 ((zpow_le_zpow_right₀ one_le_two hk).trans h0)
  rw [expo, if_neg this, floor_logb h0 h1]

/-- A positive number lies between two neighbouring powers of two. -/
theorem exists_pow {y : ℝ} (hy : 0 < y) : ∃ k : ℤ, (2 : ℝ) ^ k ≤ y ∧ y < (2 : ℝ) ^ (k + 1) := by
  obtain ⟨k, hk⟩ := exists_mem_Ico_zpow hy one_lt_two
  exact ⟨k, hk.1, hk.2⟩

/-- Two numbers have the same exponent where the greater is below the least normal power of two or the whole parts of
their logarithms agree. -/
theorem expo_eq {x y : ℝ} (h0 : 0 ≤ x) (hxy : x ≤ y) (h : y < (2 : ℝ) ^ (-126 : ℤ) ∨ 0 < x ∧ ⌊lb x⌋ = ⌊lb y⌋) :
    expo x = expo y := by
  by_cases hy : y < (2 : ℝ) ^ (-126 : ℤ)
  · rw [expo_small hy, expo_small (hxy.trans_lt hy)]
  obtain ⟨hx, h⟩ := h.resolve_left hy
  have hy0 : 0 < y := hx.trans_le hxy
  have h1 : (-126 : ℤ) ≤ ⌊lb y⌋ := by
    rw [Int.le_floor, le_lb hy0]
    exact not_lt.1 hy
  have h2 : ¬ x < (2 : ℝ) ^ (-126 : ℤ) := by
    rw [← h, Int.le_floor, le_lb hx] at h1
    exact not_lt.2 h1
  rw [expo, expo, if_neg hy, if_neg h2, h]

end Cert.Scale

end
-- ==== Proof.Ladder.lean ====
module

public import proofs.«01_k».proof.Proof.Exponent

/-! The kernel's search for the exponent of a number: eight comparisons with powers of two find the exponent's bits, and
the scale and its inverse are written down from those bits. -/

@[expose] public section

noncomputable section

namespace Cert.Scale

open Idealize.ShloMosaic

/-- The word with exponent bits `n`, clear otherwise. -/
def expWord (n : ℕ) : BitVec 32 := BitVec.ofNat 32 (n * 8388608)

theorem expWord_add (a b : ℕ) : expWord a + expWord b = expWord (a + b) := by
  rw [expWord, expWord, expWord, ← BitVec.ofNat_add, add_mul]

theorem fields : ∀ n : Fin 256, ((expWord n.val).extractLsb' 31 1 == 1#1) = false ∧ ((expWord n.val).extractLsb' 23 8).toNat = n.val
    ∧ ((expWord n.val).extractLsb' 0 23).toNat = 0 := by
  decide +kernel

/-- Exponent bits `1` to `254` denote the powers of two from `2 ^ -126` to `2 ^ 127`. -/
theorem ofBits_expWord {n : ℕ} (h1 : 1 ≤ n) (h2 : n < 255) : Ideal.ofBits .f32 (expWord n) = (((2 : ℝ) ^ ((n : ℤ) - 127) : ℝ) : EReal) := by
  obtain ⟨hs, he, hf⟩ := fields ⟨n, by omega⟩
  show Ideal.ieee 8 23 (expWord n) = _
  unfold Ideal.ieee
  dsimp only at hs he hf ⊢
  rw [hs, he, hf, if_neg (by omega), if_neg (by omega)]
  congr 1
  rw [show (n : ℤ) - 127 = 23 + ((n : ℤ) - (2 ^ (8 - 1) - 1) - 23) by norm_num, zpow_add₀ two_ne_zero]
  norm_num

theorem ofBits_expWord_top : Ideal.ofBits .f32 (expWord 255) = ⊤ := by
  obtain ⟨hs, he, hf⟩ := fields ⟨255, by omega⟩
  show Ideal.ieee 8 23 (expWord 255) = _
  unfold Ideal.ieee
  dsimp only at hs he hf ⊢
  rw [hs, he, hf]
  simp

/-- One comparison: the bits `d` are kept where the number reaches the power of two they make. -/
def step (y : EReal) (d e : BitVec 32) : BitVec 32 := if y < Ideal.ofBits .f32 (e + d) then e else e + d

/-- The exponent bits found. -/
def word (y : EReal) : BitVec 32 :=
  step y 8388608#32 (step y 16777216#32 (step y 33554432#32 (step y 67108864#32 (step y 134217728#32 (step y 268435456#32
    (step y 536870912#32 (step y 1073741824#32 0#32)))))))

/-- The scale's bits from the exponent bits, and the inverse's. -/
def scaleWord (e : BitVec 32) : BitVec 32 := if 0 < (e - 33554432#32).toInt then e - 33554432#32 + 8388608#32 else 1065353216#32
def invWord (e : BitVec 32) : BitVec 32 := if 0 < (e - 33554432#32).toInt then 2122317824#32 - (e - 33554432#32) else 1065353216#32

/-- The same search on whole numbers. -/
def nstep (k d n : ℕ) : ℕ := if k < n + d then n else n + d

theorem nstep_le (k d n : ℕ) : nstep k d n ≤ n + d := by unfold nstep; split <;> omega

theorem search : ∀ k : Fin 255, nstep k 1 (nstep k 2 (nstep k 4 (nstep k 8 (nstep k 16 (nstep k 32 (nstep k 64 (nstep k 128 0))))))) = k := by
  decide +kernel

section

variable {y : EReal} {k : ℕ} (h : ∀ n : ℕ, 1 ≤ n → n ≤ 255 → (y < Ideal.ofBits .f32 (expWord n) ↔ k < n))

include h

theorem step_eq {d n : ℕ} (hd : 1 ≤ d) (hn : n + d ≤ 255) : step y (expWord d) (expWord n) = expWord (nstep k d n) := by
  rw [step, expWord_add, nstep]
  by_cases hk : k < n + d
  · rw [if_pos hk, if_pos ((h _ (by omega) hn).2 hk)]
  · rw [if_neg hk, if_neg fun e => hk ((h _ (by omega) hn).1 e)]

theorem word_eq (hk : k < 255) : word y = expWord k := by
  have e0 := nstep_le k 128 0
  have e1 := nstep_le k 64 (nstep k 128 0)
  have e2 := nstep_le k 32 (nstep k 64 (nstep k 128 0))
  have e3 := nstep_le k 16 (nstep k 32 (nstep k 64 (nstep k 128 0)))
  have e4 := nstep_le k 8 (nstep k 16 (nstep k 32 (nstep k 64 (nstep k 128 0))))
  have e5 := nstep_le k 4 (nstep k 8 (nstep k 16 (nstep k 32 (nstep k 64 (nstep k 128 0)))))
  have e6 := nstep_le k 2 (nstep k 4 (nstep k 8 (nstep k 16 (nstep k 32 (nstep k 64 (nstep k 128 0))))))
  show step y (expWord 1) (step y (expWord 2) (step y (expWord 4) (step y (expWord 8) (step y (expWord 16) (step y (expWord 32)
    (step y (expWord 64) (step y (expWord 128) (expWord 0)))))))) = _
  rw [step_eq h (by omega) (by omega), step_eq h (by omega) (by omega), step_eq h (by omega) (by omega),
    step_eq h (by omega) (by omega), step_eq h (by omega) (by omega), step_eq h (by omega) (by omega),
    step_eq h (by omega) (by omega), step_eq h (by omega) (by omega)]
  exact congrArg expWord (search ⟨k, hk⟩)

end

/-- The comparisons with a number between two neighbouring powers of two. -/
theorem lt_iff {y : ℝ} {k : ℕ} (hk : k < 255) (h0 : 0 < k → (2 : ℝ) ^ ((k : ℤ) - 127) ≤ y) (h1 : y < (2 : ℝ) ^ ((k : ℤ) - 126))
    (n : ℕ) (hn : 1 ≤ n) (hn' : n ≤ 255) : ((y : EReal) < Ideal.ofBits .f32 (expWord n) ↔ k < n) := by
  rcases hn'.lt_or_eq with hn' | rfl
  · rw [ofBits_expWord hn hn', EReal.coe_lt_coe_iff]
    constructor
    · intro e
      by_contra hc
      have := (zpow_le_zpow_right₀ (one_le_two (α := ℝ)) (by omega : (n : ℤ) - 127 ≤ (k : ℤ) - 127)).trans (h0 (by omega))
      linarith
    · intro e
      exact h1.trans_le (zpow_le_zpow_right₀ (one_le_two (α := ℝ)) (by omega : (k : ℤ) - 126 ≤ (n : ℤ) - 127))
  · rw [ofBits_expWord_top]
    exact ⟨fun _ => hk, fun _ => EReal.coe_lt_top y⟩

theorem words : ∀ k : Fin 255, (scaleWord (expWord k.val) = if 4 < k.val then expWord (k.val - 3) else expWord 127)
    ∧ invWord (expWord k.val) = if 4 < k.val then expWord (257 - k.val) else expWord 127 := by
  decide +kernel

/-- The scale and the inverse the kernel makes of a number that is sixteen times `z`. -/
theorem scale_inv {z : ℝ} (h0 : 0 ≤ z) (h1 : 16 * z < (2 : ℝ) ^ (127 : ℤ)) :
    Ideal.ofBits .f32 (scaleWord (word ((16 * z : ℝ) : EReal))) = ((scale z : ℝ) : EReal)
      ∧ Ideal.ofBits .f32 (invWord (word ((16 * z : ℝ) : EReal))) = ((inv z : ℝ) : EReal) := by
  have h16 : ∀ j : ℤ, (2 : ℝ) ^ (j + 4) = 16 * (2 : ℝ) ^ j := fun j => by rw [zpow_add₀ two_ne_zero]; norm_num; ring
  obtain ⟨k, hk, e0, e1⟩ : ∃ k : ℕ, k < 254 ∧ (0 < k → (2 : ℝ) ^ ((k : ℤ) - 127) ≤ 16 * z) ∧ 16 * z < (2 : ℝ) ^ ((k : ℤ) - 126) := by
    by_cases hs : 16 * z < (2 : ℝ) ^ (-126 : ℤ)
    · exact ⟨0, by omega, fun h => absurd h (by omega), by simpa using hs⟩
    · have hs := not_lt.1 hs
      obtain ⟨j, hj0, hj1⟩ := exists_pow ((by positivity : (0 : ℝ) < (2 : ℝ) ^ (-126 : ℤ)).trans_le hs)
      have a1 : -126 < j + 1 := (zpow_lt_zpow_iff_right₀ (one_lt_two (α := ℝ))).1 (hs.trans_lt hj1)
      have a2 : j < 127 := (zpow_lt_zpow_iff_right₀ (one_lt_two (α := ℝ))).1 (hj0.trans_lt h1)
      refine ⟨(j + 127).toNat, by omega, fun _ => ?_, ?_⟩
      · rw [show (((j + 127).toNat : ℕ) : ℤ) - 127 = j by omega]; exact hj0
      · rw [show (((j + 127).toNat : ℕ) : ℤ) - 126 = j + 1 by omega]; exact hj1
  rw [word_eq (lt_iff (by omega) e0 e1) (by omega)]
  obtain ⟨w1, w2⟩ := words ⟨k, by omega⟩
  dsimp only at w1 w2
  rw [w1, w2]
  by_cases h4 : 4 < k
  · have hz : expo z = (k : ℤ) - 130 := by
      have f0 := e0 (by omega)
      rw [show (k : ℤ) - 127 = (k - 131) + 4 by omega, h16] at f0
      rw [show (k : ℤ) - 126 = (k - 130) + 4 by omega, h16] at e1
      rw [expo_of (k := (k : ℤ) - 131) (by omega) (by linarith)
        (by rw [show (k : ℤ) - 131 + 1 = k - 130 by omega]; linarith)]
      omega
    rw [if_pos h4, if_pos h4, ofBits_expWord (by omega) (by omega), ofBits_expWord (by omega) (by omega), scale, inv, hz]
    constructor
    · congr 2; omega
    · congr 2; omega
  · have hz : expo z = 0 := expo_small (by
      have := e1.trans_le (zpow_le_zpow_right₀ (one_le_two (α := ℝ)) (by omega : (k : ℤ) - 126 ≤ -126 + 4))
      rw [h16] at this
      linarith)
    rw [if_neg h4, if_neg h4, ofBits_expWord (by omega) (by omega), scale, inv, hz]
    constructor <;> · norm_num

end Cert.Scale

end
-- ==== Proof.Top.lean ====
module

public import proofs.«01_k».proof.Proof.Exponent
public import Idealize.ShloMosaic.PureOps.Ideal.Laws

/-! The greatest magnitude of a group, as a real number, and the maxima over the extended reals that mean it. -/

@[expose] public section

noncomputable section

namespace Cert.Scale

variable {f : Fin 128 → ℝ}

/-- The greatest magnitude of a group. -/
def top (f : Fin 128 → ℝ) : ℝ := Finset.univ.sup' ⟨0, Finset.mem_univ _⟩ fun b => |f b|

theorem le_top (b : Fin 128) : |f b| ≤ top f := Finset.le_sup' (fun b => |f b|) (Finset.mem_univ b)

theorem top_nonneg : 0 ≤ top f := (abs_nonneg (f 0)).trans (le_top 0)

theorem top_le {c : ℝ} (h : ∀ b, |f b| ≤ c) : top f ≤ c := Finset.sup'_le _ _ fun b _ => h b

theorem exists_top (f : Fin 128 → ℝ) : ∃ b, top f = |f b| := by
  obtain ⟨b, -, h⟩ := Finset.exists_mem_eq_sup' (⟨0, Finset.mem_univ _⟩ : (Finset.univ : Finset (Fin 128)).Nonempty) fun b => |f b|
  exact ⟨b, h⟩

/-- The maximum, from bottom, of the multiplied magnitudes. -/
theorem fold_top {k : ℝ} (hk : 0 ≤ k) {w : EReal} (hw : w = ⊥) {g : Fin 128 → EReal}
    (hg : ∀ b, g b = ((k * |f b| : ℝ) : EReal)) : Finset.univ.fold max w g = ((k * top f : ℝ) : EReal) := by
  refine le_antisymm (Finset.fold_max_le _ |>.2 ⟨hw ▸ bot_le, fun b _ => ?_⟩) ((Finset.le_fold_max _).2 (Or.inr ?_))
  · rw [hg]
    exact EReal.coe_le_coe_iff.2 (mul_le_mul_of_nonneg_left (le_top b) hk)
  · obtain ⟨b, hb⟩ := exists_top f
    exact ⟨b, Finset.mem_univ b, by rw [hg, hb]⟩

end Cert.Scale

end
-- ==== Proof.QuantConsts.lean ====
module

public import Idealize.ShloMosaic.PureOps.Ideal

/-! The float constants of the quantiser and of the claimed mask, as the real numbers their patterns denote. -/

@[expose] public section

noncomputable section

namespace Cert.Consts

open Idealize.ShloMosaic

/-- The kernel's multipliers of the magnitudes, a little below 1/448 and 1/57344. -/
def mMul : ℝ := 9568257 / 2 ^ 32
def vMul : ℝ := 9568257 / 2 ^ 39

theorem mMul_pos : 0 < mMul := by norm_num [mMul]
theorem vMul_pos : 0 < vMul := by norm_num [vMul]
theorem mMul_le : mMul ≤ 1 / 448 := by norm_num [mMul]
theorem vMul_le : vMul ≤ 1 / 57344 := by norm_num [vMul]

theorem ofBits_mMul : Ideal.ofBits .f32 0x3B120001#32 = ((mMul : ℝ) : EReal) := by
  simp [Ideal.ofBits, Ideal.ieee, mMul, -EReal.coe_mul]; norm_num

theorem ofBits_vMul : Ideal.ofBits .f32 0x37920001#32 = ((vMul : ℝ) : EReal) := by
  simp [Ideal.ofBits, Ideal.ieee, vMul, -EReal.coe_mul]; norm_num

theorem ofBits_mMul16 : Ideal.ofBits .f32 0x3D120001#32 = ((16 * mMul : ℝ) : EReal) := by
  simp [Ideal.ofBits, Ideal.ieee, mMul, -EReal.coe_mul]; norm_num

theorem ofBits_vMul16 : Ideal.ofBits .f32 0x39920001#32 = ((16 * vMul : ℝ) : EReal) := by
  simp [Ideal.ofBits, Ideal.ieee, vMul, -EReal.coe_mul]; norm_num

theorem ofBits_448 : Ideal.ofBits .f32 0x43E00000#32 = ((448 : ℝ) : EReal) := by
  simp [Ideal.ofBits, Ideal.ieee, -EReal.coe_mul]; norm_num

theorem ofBits_neg448 : Ideal.ofBits .f32 0xC3E00000#32 = ((-448 : ℝ) : EReal) := by
  simp [Ideal.ofBits, Ideal.ieee, -EReal.coe_mul]; norm_num

theorem ofBits_57344 : Ideal.ofBits .f32 0x47600000#32 = ((57344 : ℝ) : EReal) := by
  simp [Ideal.ofBits, Ideal.ieee, -EReal.coe_mul]; norm_num

theorem ofBits_mTiny : Ideal.ofBits .f32 0x04E00000#32 = ((448 * 2 ^ (-126 : ℤ) : ℝ) : EReal) := by
  simp [Ideal.ofBits, Ideal.ieee, -EReal.coe_mul]; norm_num

theorem ofBits_vTiny : Ideal.ofBits .f32 0x08600000#32 = ((57344 * 2 ^ (-126 : ℤ) : ℝ) : EReal) := by
  simp [Ideal.ofBits, Ideal.ieee, -EReal.coe_mul]; norm_num

theorem ofBits_tiny : Ideal.ofBits .f32 0x00800000#32 = ((2 ^ (-126 : ℤ) : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_nine : Ideal.ofBits .f32 0x41100000#32 = ((9 : ℝ) : EReal) := by
  simp [Ideal.ofBits, Ideal.ieee, -EReal.coe_mul]; norm_num

theorem ofBits_ten : Ideal.ofBits .f32 0x41200000#32 = ((10 : ℝ) : EReal) := by
  simp [Ideal.ofBits, Ideal.ieee, -EReal.coe_mul]; norm_num

theorem ofBits_thousand : Ideal.ofBits .f32 0x447A0000#32 = ((1000 : ℝ) : EReal) := by
  simp [Ideal.ofBits, Ideal.ieee, -EReal.coe_mul]; norm_num

theorem ofBits_two120 : Ideal.ofBits .f32 0x7B800000#32 = ((2 ^ (120 : ℤ) : ℝ) : EReal) := by
  rw [show (2 : ℝ) ^ (120 : ℤ) = 1329227995784915872903807060280344576 by norm_num]
  simp [Ideal.ofBits, Ideal.ieee, -EReal.coe_mul]; norm_num

theorem ofBits_two112 : Ideal.ofBits .f32 0x77800000#32 = ((2 ^ (112 : ℤ) : ℝ) : EReal) := by
  rw [show (2 : ℝ) ^ (112 : ℤ) = 5192296858534827628530496329220096 by norm_num]
  simp [Ideal.ofBits, Ideal.ieee, -EReal.coe_mul]; norm_num

theorem ofBits_two60 : Ideal.ofBits .f32 0x5D800000#32 = ((2 ^ 60 : ℝ) : EReal) := by
  rw [show (2 : ℝ) ^ 60 = 1152921504606846976 by norm_num]
  simp [Ideal.ofBits, Ideal.ieee, -EReal.coe_mul]; norm_num

theorem ofBits_bot : Ideal.ofBits .f32 0xFF800000#32 = ⊥ := by
  simp [Ideal.ofBits, Ideal.ieee]

theorem ofBits_bot16 : Ideal.ofBits .bf16 0xFF80#16 = ⊥ := by
  simp [Ideal.ofBits, Ideal.ieee]

end Cert.Consts

end
-- ==== Proof.QuantScale.lean ====
module

public import proofs.«01_k».proof.Proof.Quant
public import proofs.«01_k».proof.Proof.Ladder
public import proofs.«01_k».proof.Proof.Top
public import proofs.«01_k».proof.Proof.QuantConsts
public import Idealize.ShloMosaic.Lib.WordCmp
public import Idealize.ShloMosaic.Lib.Pointwise

/-! The kernel's scales and inverses over the extended reals: the search for the exponent read off entry by entry, and
the maxima it searches with. -/

@[expose] public section

set_option maxRecDepth 16384

noncomputable section

namespace Cert.UpdateIdeal.Tile

open Cert.UpdateIdeal Cert.UpdateIdeal.Gen Idealize.ShloMosaic Idealize.ShloMosaic.TcCoe Idealize.SL.Sem

section Search

variable {F : FTy → Type} [FloatOps F] [Named F]

/-- One step of the search: add `d` to the word where the sum, read as a float, is not above `y`. -/
def stepT (y : FVec F S16x128 .f32) (d : BitVec 32) (e : IVec S16x128 32) : IVec S16x128 32 :=
  select (cmpf .olt y (bitcastToFloat .f32 (addi e (broadcast S16x128 d)))) e (addi e (broadcast S16x128 d))

theorem search_eq (y : FVec F S16x128 .f32) : k0_pay370 y k0_pay367 k0_pay368 k0_pay369
    = subi (stepT y 8388608#32 (stepT y 16777216#32 (stepT y 33554432#32 (stepT y 67108864#32 (stepT y 134217728#32
        (stepT y 268435456#32 (stepT y 536870912#32 (stepT y 1073741824#32 (broadcast S16x128 0#32))))))))) (broadcast S16x128 33554432#32) := rfl

end Search

theorem select_cmp {α : Type} {p : Prop} [Decidable p] (x y : α) : Scalar.select (BitVec.ofBool (decide p)) x y = if p then x else y := by
  by_cases h : p <;> simp [h, Scalar.select]

theorem select_sgt {α : Type} (w : BitVec 32) (x y : α) : Scalar.select (IntOp.cmpi .sgt w 0#32) x y = if 0 < w.toInt then x else y := by
  rw [WordCmp.cmpi_sgt_eq, select_cmp]
  rfl

variable (y : FVec Ideal S16x128 .f32) (i : S16x128.Idx)

theorem stepT_apply (d : BitVec 32) (e : IVec S16x128 32) : stepT y d e i = Scale.step (y i) d (e i) :=
  select_cmp (p := y i < Ideal.ofBits .f32 (e i + d)) (e i) (e i + d)

theorem search_apply : k0_pay370 y k0_pay367 k0_pay368 k0_pay369 i = Scale.word (y i) - 33554432#32 := by
  rw [search_eq]
  show (stepT y _ _) i - 33554432#32 = _
  simp only [stepT_apply]
  rfl

theorem scaleT_apply : scaleT y i = Ideal.ofBits .f32 (Scale.scaleWord (Scale.word (y i))) := by
  show Ideal.ofBits .f32 (Scalar.select (IntOp.cmpi .sgt (k0_pay370 y k0_pay367 k0_pay368 k0_pay369 i) 0#32)
    (k0_pay370 y k0_pay367 k0_pay368 k0_pay369 i + 8388608#32) 1065353216#32) = _
  rw [search_apply, select_sgt]
  rfl

theorem invT_apply : invT y i = Ideal.ofBits .f32 (Scale.invWord (Scale.word (y i))) := by
  show Ideal.ofBits .f32 (Scalar.select (IntOp.cmpi .sgt (k0_pay370 y k0_pay367 k0_pay368 k0_pay369 i) 0#32)
    (2122317824#32 - k0_pay370 y k0_pay367 k0_pay368 k0_pay369 i) 1065353216#32) = _
  rw [search_apply, select_sgt]
  rfl

theorem stack_apply (f : Fin 16 → FVec Ideal S1x128 .bf16) (q : Fin 16) (a : Fin 128) : stack f (ix2 q a) = f q (ix2 0 a) := by
  fin_cases q <;> pointwise [stack]

variable {L : Loads Ideal} {r : Fin 2} {q : Fin 16} {a : Fin 128} {f : Fin 128 → ℝ}

theorem topM_apply (h : ∀ b, mAt L r q (ix2 a b) = (f b : EReal)) :
    topM L r (ix2 q a) = ((16 * (Consts.mMul * Scale.top f) : ℝ) : EReal) := by
  rw [topM, stack_apply, ← mul_assoc]
  generalize mAt L r q = x at h
  pointwise [k0_pay23]
  refine Scale.fold_top (by norm_num [Consts.mMul]) Consts.ofBits_bot16 fun b => ?_
  rw [h, Consts.ofBits_mMul16, ← EReal.coe_mul]
  show max (_ : EReal) (-_) = _
  rw [← EReal.coe_neg, ← EReal.coe_strictMono.monotone.map_max, ← abs_eq_max_neg, abs_mul, mul_comm,
    abs_of_pos (show (0 : ℝ) < 16 * Consts.mMul by norm_num [Consts.mMul])]

theorem topV_apply (h : ∀ b, vAt L r q (ix2 a b) = (f b : EReal)) :
    topV L r (ix2 q a) = ((16 * (Consts.vMul * Scale.top f) : ℝ) : EReal) := by
  rw [topV, stack_apply, ← mul_assoc]
  generalize vAt L r q = x at h
  pointwise [k0_pay24]
  refine Scale.fold_top (by norm_num [Consts.vMul]) Consts.ofBits_bot16 fun b => ?_
  rw [h, Consts.ofBits_vMul16, ← EReal.coe_mul]
  show max (_ : EReal) (-_) = _
  rw [← EReal.coe_neg, ← EReal.coe_strictMono.monotone.map_max, ← abs_eq_max_neg, abs_mul, mul_comm,
    abs_of_pos (show (0 : ℝ) < 16 * Consts.vMul by norm_num [Consts.vMul])]

end Cert.UpdateIdeal.Tile

end
-- ==== Proof.Consts.lean ====
module

public import Idealize.ShloMosaic.PureOps.Ideal

/-! The float constants the programs spell, as the real numbers their patterns denote. -/

@[expose] public section

noncomputable section

namespace Cert.Consts

open Idealize.ShloMosaic

/-- The decay of the second moment, the f32 nearest 0.999. -/
def beta2 : ℝ := 16760439 / 16777216

theorem ofBits_beta2 : Ideal.ofBits .f32 0x3F7FBE77#32 = ((beta2 : ℝ) : EReal) := by
  simp [Ideal.ofBits, Ideal.ieee, beta2, -EReal.coe_mul]; norm_num

/-- The f32 nearest 1e-6, the guard of the clip factor. -/
def clipEps : ℝ := 8796093 / 8796093022208

theorem ofBits_clipEps : Ideal.ofBits .f32 0x358637BD#32 = ((clipEps : ℝ) : EReal) := by
  simp [Ideal.ofBits, Ideal.ieee, clipEps, -EReal.coe_mul]; norm_num

/-- The f32 nearest 1e-37, the guard of the reciprocal square root. -/
def rootGuard : ℝ := 8920298 / 2 ^ 146

theorem ofBits_rootGuard : Ideal.ofBits .f32 0x02081CEA#32 = ((rootGuard : ℝ) : EReal) := by
  simp [Ideal.ofBits, Ideal.ieee, rootGuard, -EReal.coe_mul]; norm_num

theorem ofBits_neg_thousand : Ideal.ofBits .f32 0xC47A0000#32 = ((-1000 : ℝ) : EReal) := by
  simp [Ideal.ofBits, Ideal.ieee, -EReal.coe_mul]; norm_num

end Cert.Consts

end
-- ==== Proof.Indicator.lean ====
module

public import proofs.«01_k».proof.Proof.Outs
public import proofs.«01_k».proof.Proof.Consts
public import Idealize.ShloMosaic.Lib.Pointwise

/-! The indicator matrix over the extended reals: entry `(a, b)` is 1 where row `a` is one of the three rows of column
`b`'s group, 0 elsewhere. -/

@[expose] public section

set_option maxRecDepth 16384

noncomputable section

namespace Cert.UpdateIdeal.Tile

open Cert.UpdateIdeal Cert.UpdateIdeal.Gen Idealize.ShloMosaic Idealize.ShloMosaic.TcCoe Idealize.SL.Sem

/-- The row number modulo 16, as the body computes it. -/
theorem row_word : ∀ a : Fin 48, Scalar.select
          (IntOp.andi
            (IntOp.xori
              (IntOp.cmpi CmpIPredicate.slt
                (IntOp.remsi ArithUnit.vector (BitVec.ofNat 32 a.val)
                  (Scalar.select (Scalar.cmpi CmpIPredicate.eq 16#32 0#32) 1#32 16#32))
                0#32)
              (Scalar.cmpi CmpIPredicate.slt (Scalar.select (Scalar.cmpi CmpIPredicate.eq 16#32 0#32) 1#32 16#32) 0#32))
            (IntOp.cmpi CmpIPredicate.ne
              (IntOp.remsi ArithUnit.vector (BitVec.ofNat 32 a.val)
                (Scalar.select (Scalar.cmpi CmpIPredicate.eq 16#32 0#32) 1#32 16#32))
              0#32))
          (IntOp.addi
            (IntOp.remsi ArithUnit.vector (BitVec.ofNat 32 a.val)
              (Scalar.select (Scalar.cmpi CmpIPredicate.eq 16#32 0#32) 1#32 16#32))
            (Scalar.select (Scalar.cmpi CmpIPredicate.eq 16#32 0#32) 1#32 16#32))
          (IntOp.remsi ArithUnit.vector (BitVec.ofNat 32 a.val)
            (Scalar.select (Scalar.cmpi CmpIPredicate.eq 16#32 0#32) 1#32 16#32)) = BitVec.ofNat 32 (a.val % 16) := by
  decide +kernel

/-- The group of a column, as the body computes it. -/
theorem col_word : ∀ b : Fin 2048, Scalar.select
          (IntOp.andi
            (IntOp.cmpi CmpIPredicate.ne
              (IntOp.subi (BitVec.setWidth 32 (IntOp.cmpi CmpIPredicate.sgt (BitVec.ofNat 32 b.val) 0#32))
                (BitVec.setWidth 32 (IntOp.cmpi CmpIPredicate.slt (BitVec.ofNat 32 b.val) 0#32)))
              (Scalar.subi (Scalar.extui (Scalar.cmpi CmpIPredicate.sgt 128#32 0#32))
                (Scalar.extui (Scalar.cmpi CmpIPredicate.slt 128#32 0#32))))
            (IntOp.cmpi CmpIPredicate.ne (IntOp.remsi ArithUnit.vector (BitVec.ofNat 32 b.val) 128#32) 0#32))
          (IntOp.subi (IntOp.divsi ArithUnit.vector (BitVec.ofNat 32 b.val) 128#32) 1#32)
          (IntOp.divsi ArithUnit.vector (BitVec.ofNat 32 b.val) 128#32) = BitVec.ofNat 32 (b.val / 128) := by
  decide +kernel

theorem word_eq : ∀ x y : Fin 16, Scalar.select (IntOp.cmpi CmpIPredicate.eq (BitVec.ofNat 32 x.val) (BitVec.ofNat 32 y.val)) (1 : EReal) 0
    = if x.val = y.val then 1 else 0 := by
  intro x y
  have h : ∀ x y : Fin 16, IntOp.cmpi CmpIPredicate.eq (BitVec.ofNat 32 x.val) (BitVec.ofNat 32 y.val)
      = if x.val = y.val then 1#1 else 0#1 := by decide +kernel
  rw [h]; split <;> rfl

/-- The indicator matrix at an index. -/
theorem indicator_apply (a : Fin 48) (b : Fin 2048) :
    (indicator (F := Ideal)) (ix2 a b) = if a.val % 16 = b.val / 128 then 1 else 0 := by
  pointwise [indicator, k0_pay6, k0_pay3, k0_pay4, k0_pay5]
  rw [row_word, col_word]
  exact word_eq ⟨a.val % 16, by omega⟩ ⟨b.val / 128, by omega⟩

/-- The columns of a pair of groups. -/
theorem indicator_cols (p : Fin 8) (a : Fin 48) (b : Fin 256) :
    View.ld (indicator (F := Ideal)) (cols p) (ix2 a b) = if a.val % 16 = 2 * p.val + b.val / 128 then 1 else 0 := by
  have h : View.ld (indicator (F := Ideal)) (cols p) (ix2 a b)
      = (indicator (F := Ideal)) (ix2 a ⟨256 * p.val + b.val, by omega⟩) := by
    pointwise
  rw [h, indicator_apply]
  have e : (256 * p.val + b.val) / 128 = 2 * p.val + b.val / 128 := by omega
  simp only [e]

/-- A value split in three parts that add up to it, where it is finite: over the reals the second and third parts are
zero, and the indicator column `e` of group `q` picks the first. -/
theorem split_sum (u : Fin 16 → EReal) (q : Fin 16) (hu : ∃ r : ℝ, u q = (r : EReal)) (e : Fin 48 → EReal)
    (he : ∀ x : Fin 48, e x = if x.val % 16 = q.val then 1 else 0) :
    (∑ x : Fin 48, (if h : x.val < 16 then u ⟨x.val, h⟩
      else if h : x.val - 16 < 16 then u ⟨x.val - 16, h⟩ - u ⟨x.val - 16, h⟩
      else u ⟨x.val - 16 - 16, by omega⟩ - u ⟨x.val - 16 - 16, by omega⟩
        - (u ⟨x.val - 16 - 16, by omega⟩ - u ⟨x.val - 16 - 16, by omega⟩)) * e x) = u q := by
  obtain ⟨r, hr⟩ := hu
  have hz : u q - u q = 0 := by rw [hr, ← EReal.coe_sub, sub_self]; rfl
  have hq := q.isLt
  rw [Finset.sum_eq_single (⟨q.val, by omega⟩ : Fin 48)]
  · rw [he, if_pos (Nat.mod_eq_of_lt hq), mul_one, dif_pos hq]
  · intro x _ hx
    have hx' : x.val ≠ q.val := fun h => hx (Fin.ext h)
    rw [he]
    by_cases hm : x.val % 16 = q.val
    · rw [if_pos hm, mul_one, dif_neg (by omega)]
      by_cases h2 : x.val - 16 < 16
      · rw [dif_pos h2, show (⟨x.val - 16, h2⟩ : Fin 16) = q from Fin.ext (by show x.val - 16 = q.val; omega), hz]
      · rw [dif_neg h2, show (⟨x.val - 16 - 16, by omega⟩ : Fin 16) = q from Fin.ext (by show x.val - 16 - 16 = q.val; omega), hz,
          sub_zero]
    · rw [if_neg hm, mul_zero]
  · intro h; exact absurd (Finset.mem_univ _) h

/-- The first moment's decayed scale on a tile's columns. -/
theorem wide_low (ms vs : Vec Ideal S16x128 .f32) (p : Fin 8) (a : Fin 256) (ha : a.val < 128) (b : Fin 256) (q : Fin 16)
    (hq : q.val = 2 * p.val + b.val / 128) (r : ℝ) (hr : ms (ix2 q ⟨a.val, ha⟩) = (r : EReal)) :
    wideT ms vs (View.ld indicator (cols p)) (ix2 a b) = ((r * (9 / 10) : ℝ) : EReal) := by
  have key := split_sum (fun i => ms (ix2 i ⟨a.val, ha⟩) * ((9 / 10 : ℝ) : EReal)) q
    ⟨r * (9 / 10), by rw [hr, ← EReal.coe_mul]⟩ (fun x => View.ld (indicator (F := Ideal)) (cols p) (ix2 x b))
    (fun x => by rw [indicator_cols, hq])
  rw [EReal.coe_mul, ← hr]
  refine Eq.trans ?_ key
  pointwise [wideT, k0_pay16, k0_pay15, k0_pay14]
  simp only [dif_pos ha]
  rfl

/-- The second moment's decayed scale on a tile's columns. -/
theorem wide_high (ms vs : Vec Ideal S16x128 .f32) (p : Fin 8) (a : Fin 256) (ha : ¬ a.val < 128) (b : Fin 256) (q : Fin 16)
    (hq : q.val = 2 * p.val + b.val / 128) (r : ℝ) (hr : vs (ix2 q ⟨a.val - 128, by omega⟩) = (r : EReal)) :
    wideT ms vs (View.ld indicator (cols p)) (ix2 a b) = ((r * Consts.beta2 : ℝ) : EReal) := by
  have key := split_sum (fun i => vs (ix2 i ⟨a.val - 128, by omega⟩) * ((Consts.beta2 : ℝ) : EReal)) q
    ⟨r * Consts.beta2, by rw [hr, ← EReal.coe_mul]⟩ (fun x => View.ld (indicator (F := Ideal)) (cols p) (ix2 x b))
    (fun x => by rw [indicator_cols, hq])
  rw [EReal.coe_mul, ← hr]
  refine Eq.trans ?_ key
  pointwise [wideT, k0_pay16, k0_pay15, k0_pay14]
  simp only [dif_neg ha, Consts.ofBits_beta2]

end Cert.UpdateIdeal.Tile

end
-- ==== Proof.Element.lean ====
module

public import proofs.«01_k».proof.Proof.Consts
public import Mathlib.Analysis.SpecialFunctions.Pow.Real

/-! One element of the optimizer step over the real numbers: the new moments, the parameter update, and the form in
which the kernel computes the update. -/

@[expose] public section

noncomputable section

namespace Cert.Element

open Idealize.ShloMosaic

/-- The new first moment, from the gradient `g`, the clip factor, the old code and its group's scale. -/
def newM (g clip code scale : ℝ) : ℝ := 9 / 10 * (code * scale) + 1 / 10 * (g * clip)

/-- The new second moment. -/
def newV (g clip code scale : ℝ) : ℝ := Consts.beta2 * (code * scale) + 1 / 1000 * (g * clip * (g * clip))

/-- The bias corrections at step `t`. -/
def bias1 (t : ℝ) : ℝ := 1 - (9 / 10 : ℝ) ^ t
def bias2 (t : ℝ) : ℝ := 1 - (999 / 1000 : ℝ) ^ t

/-- The parameter update. -/
def update (m v p t : ℝ) : ℝ := -1 / 1000 * (m / bias1 t / (√(v / bias2 t) + 1 / 100000000) + 1 / 100 * p)

theorem bias1_pos {t : ℝ} (ht : 1 ≤ t) : 0 < bias1 t :=
  sub_pos.mpr (Real.rpow_lt_one (by norm_num) (by norm_num) (by linarith))

theorem bias2_pos {t : ℝ} (ht : 1 ≤ t) : 0 < bias2 t :=
  sub_pos.mpr (Real.rpow_lt_one (by norm_num) (by norm_num) (by linarith))

/-- The power of a decay as the kernel computes it. -/
theorem exp_log (b t : ℝ) (hb : 0 < b) : Real.exp (t * Real.log b) = b ^ t := by
  rw [Real.rpow_def_of_pos hb, mul_comm]

theorem rsqrt_pos {r : ℝ} (h : 0 < r) : Ideal.rsqrt (r : EReal) = (((√r)⁻¹ : ℝ) : EReal) := by
  rw [Ideal.rsqrt_coe, if_neg (not_lt.mpr h.le), if_neg h.ne']

theorem rootGuard_pos : 0 < Consts.rootGuard := by unfold Consts.rootGuard; positivity

/-- The guarded root: `v` times the reciprocal root of `v` or the guard is the root of `v` where `v` is zero or at
least the guard. -/
theorem guarded_root {v : ℝ} (hv : v = 0 ∨ Consts.rootGuard ≤ v) :
    (v : EReal) * Ideal.rsqrt (max (v : EReal) ((Consts.rootGuard : ℝ) : EReal)) = ((√v : ℝ) : EReal) := by
  rcases hv with rfl | hv
  · simp
  · have hp := lt_of_lt_of_le rootGuard_pos hv
    rw [max_eq_left (EReal.coe_le_coe_iff.mpr hv), rsqrt_pos hp, ← EReal.coe_mul]
    congr 1
    have h := Real.sqrt_pos.mpr hp
    field_simp
    exact (Real.sq_sqrt hp.le).symm

/-- The kernel's form of the update equals `update`. -/
theorem update_eq {m v p t : ℝ} (ht : 1 ≤ t) (hv : v = 0 ∨ Consts.rootGuard ≤ v) :
    (m : EReal) * Ideal.div 1 ((v : EReal) * Ideal.rsqrt (max (v : EReal) ((Consts.rootGuard : ℝ) : EReal))
        * ((bias1 t : ℝ) * ((-1000 : ℝ) : EReal) * Ideal.rsqrt ((bias2 t : ℝ) : EReal))
        + (bias1 t : ℝ) * ((-1 / 100000 : ℝ) : EReal)) - (p : EReal) * ((1 / 100000 : ℝ) : EReal)
      = ((update m v p t : ℝ) : EReal) := by
  have h1 := bias1_pos ht
  have h2 := bias2_pos ht
  have hs2 := Real.sqrt_pos.mpr h2
  have hsv := Real.sqrt_nonneg v
  have hv0 : 0 ≤ v := by
    rcases hv with rfl | hv
    · exact le_rfl
    · exact (rootGuard_pos.le).trans hv
  rw [guarded_root hv, rsqrt_pos h2]
  simp only [← EReal.coe_mul, ← EReal.coe_add]
  have hden : √v * (bias1 t * -1000 * (√(bias2 t))⁻¹) + bias1 t * (-1 / 100000)
      = -(1000 * bias1 t * (√v / √(bias2 t) + 1 / 100000000)) := by
    field_simp; ring
  have hpos : 0 < √v / √(bias2 t) + 1 / 100000000 := by positivity
  have hden0 : √v * (bias1 t * -1000 * (√(bias2 t))⁻¹) + bias1 t * (-1 / 100000) ≠ 0 := by
    rw [hden]; exact neg_ne_zero.mpr (by positivity)
  rw [Ideal.div_coe hden0, one_mul]
  simp only [← EReal.coe_mul, ← EReal.coe_sub]
  rw [hden, update, Real.sqrt_div hv0]
  congr 1
  generalize √v / √(bias2 t) + 1 / 100000000 = D at hpos
  field_simp
  ring

end Cert.Element

end
-- ==== Proof.TileValue.lean ====
module

public import proofs.«01_k».proof.Proof.Indicator
public import proofs.«01_k».proof.Proof.Element

/-! The tiles over the extended reals: where the operands of an element are finite, the kernel's new moments and its
update of that element are those of `Element`. -/

@[expose] public section

set_option maxRecDepth 16384

noncomputable section

namespace Cert.UpdateIdeal.Tile

open Cert.UpdateIdeal Cert.UpdateIdeal.Gen Idealize.ShloMosaic Idealize.ShloMosaic.TcCoe Idealize.SL.Sem

/-! The named constants, as real numbers. -/

theorem named_one_minus_beta1 : (Named.named κ "one_minus_beta1" 0x3DCCCCCD#32 : Ideal .f32) = ((1 / 10 : ℝ) : EReal) := rfl
theorem named_root_one_minus_beta2 :
    (Named.named κ "root_one_minus_beta2" 0x3D0186E2#32 : Ideal .f32) = ((√(1 / 1000 : ℝ) : ℝ) : EReal) := rfl
theorem named_log_beta1 : (Named.named κ "log_beta1" 0xBDD7C741#32 : Ideal .f32) = ((Real.log (9 / 10) : ℝ) : EReal) := rfl
theorem named_log_beta2 : (Named.named κ "log_beta2" 0xBA832338#32 : Ideal .f32) = ((Real.log (999 / 1000) : ℝ) : EReal) := rfl
theorem named_neg_eps_over_lr : (Named.named κ "neg_eps_over_lr" 0xB727C5AC#32 : Ideal .f32) = ((-1 / 100000 : ℝ) : EReal) := rfl
theorem named_lr_wd : (Named.named κ "lr_wd" 0x3727C5AC#32 : Ideal .f32) = ((1 / 100000 : ℝ) : EReal) := rfl

variable {L : Loads Ideal} (he : ∀ p, L.e p = View.ld indicator (cols p)) {r : Fin 2} {q : Fin 16} {a b : Fin 128}

include he in
/-- A tile's new first moment. -/
theorem mAt_apply {g clip mc ms : ℝ} (hclip : k0_pay7 L.gsum (ix2 0 b) = (clip : EReal))
    (hg : L.g r q (ix2 a b) = (g : EReal)) (hmc : L.mc r q (ix2 a b) = (mc : EReal)) (hms : L.ms r (ix2 q a) = (ms : EReal)) :
    mAt L r q (ix2 a b) = ((Element.newM g clip mc ms : ℝ) : EReal) := by
  have hw := wide_low (L.ms r) (L.vs r) (pair q) ⟨a.val, by omega⟩ a.isLt ⟨128 * (q.val % 2) + b.val, by omega⟩ q
    (by show q.val = 2 * (q.val / 2) + (128 * (q.val % 2) + b.val) / 128; omega) ms hms
  rw [← he] at hw
  pointwise [mAt, mT, k0_pay10]
  rw [hclip, hg, hmc, hw, named_one_minus_beta1]
  simp only [← EReal.coe_mul, ← EReal.coe_add, Element.newM]
  congr 1; ring

include he in
/-- A tile's new second moment. -/
theorem vAt_apply {g clip vc vs : ℝ} (hclip : k0_pay7 L.gsum (ix2 0 b) = (clip : EReal))
    (hg : L.g r q (ix2 a b) = (g : EReal)) (hvc : L.vc r q (ix2 a b) = (vc : EReal)) (hvs : L.vs r (ix2 q a) = (vs : EReal)) :
    vAt L r q (ix2 a b) = ((Element.newV g clip vc vs : ℝ) : EReal) := by
  have hw := wide_high (L.ms r) (L.vs r) (pair q) ⟨128 + a.val, by omega⟩ (by show ¬ 128 + a.val < 128; omega)
    ⟨128 * (q.val % 2) + b.val, by omega⟩ q
    (by show q.val = 2 * (q.val / 2) + (128 * (q.val % 2) + b.val) / 128; omega) vs
    (by rw [← hvs]; congr 2; exact Fin.ext (by show 128 + a.val - 128 = a.val; omega))
  rw [← he] at hw
  have hs : √(1 / 1000 : ℝ) * √(1 / 1000 : ℝ) = 1 / 1000 := Real.mul_self_sqrt (by norm_num)
  pointwise [vAt, vT, k0_pay11]
  rw [hclip, hg, hvc, hw, named_root_one_minus_beta2]
  simp only [← EReal.coe_mul, ← EReal.coe_add, Element.newV]
  congr 1
  linear_combination (g * clip) * (g * clip) * hs

/-- The kernel's bias corrections. -/
theorem bias1_word (w : Elt Ideal .i32) (j : S8x128.Idx) :
    k0_pay9 (F := Ideal) w j = ((Element.bias1 (BitVec.toInt w) : ℝ) : EReal) := by
  obtain ⟨a, b, rfl⟩ : ∃ a b, j = ix2 a b := ⟨_, _, eq_ix2 j⟩
  pointwise [k0_pay9, k0_pay8]
  rw [named_log_beta1, show (FloatOps.sitofp FTy.f32 w : Ideal .f32) = ((BitVec.toInt w : ℝ) : EReal) from rfl,
    ← EReal.coe_mul, Ideal.exp_coe, Element.exp_log _ _ (by norm_num), Element.bias1, EReal.coe_sub]
  rfl

theorem bias2_word (w : Elt Ideal .i32) (j : S8x128.Idx) :
    (1 : EReal) - Ideal.exp (k0_pay8 (F := Ideal) w j * (Named.named κ "log_beta2" 0xBA832338#32 : Ideal .f32))
      = ((Element.bias2 (BitVec.toInt w) : ℝ) : EReal) := by
  obtain ⟨a, b, rfl⟩ : ∃ a b, j = ix2 a b := ⟨_, _, eq_ix2 j⟩
  pointwise [k0_pay8]
  rw [named_log_beta2, show (FloatOps.sitofp FTy.f32 w : Ideal .f32) = ((BitVec.toInt w : ℝ) : EReal) from rfl,
    ← EReal.coe_mul, Ideal.exp_coe, Element.exp_log _ _ (by norm_num), Element.bias2, EReal.coe_sub]
  rfl

/-- A tile's parameter update. -/
theorem dpAt_apply {m v p : ℝ} (ht : (1 : ℝ) ≤ (BitVec.toInt L.step : ℝ)) (hm : mAt L r q (ix2 a b) = (m : EReal))
    (hv : vAt L r q (ix2 a b) = (v : EReal)) (hp : L.p r q (ix2 a b) = (p : EReal)) (hv0 : v = 0 ∨ Consts.rootGuard ≤ v) :
    dpAt L r q (ix2 a b) = ((Element.update m v p (BitVec.toInt L.step) : ℝ) : EReal) := by
  pointwise [dpAt, k0_pay22, k0_pay12, k0_pay13]
  rw [hm, hv, hp, bias1_word, bias2_word, Consts.ofBits_rootGuard, Consts.ofBits_neg_thousand, named_neg_eps_over_lr, named_lr_wd]
  exact Element.update_eq ht hv0

end Cert.UpdateIdeal.Tile

end
-- ==== Proof.Blocks.lean ====
module

public import proofs.«01_k».proof.Proof.Gen.UpdateIdeal.Value
public import Idealize.ShloMosaic.Lib.Pointwise
public import Idealize.ShloMosaic.Lib.Claim
public import Idealize.ShloMosaic.Lib.Pipeline.ValueKit.Point

/-! The blocks a grid point reads, as entries of the program's arguments: point `t` takes rows `256 t … 256 t + 255`. -/

@[expose] public section

set_option maxRecDepth 16384

noncomputable section

namespace Cert.UpdateIdeal.Tile

open Cert.UpdateIdeal Cert.UpdateIdeal.Gen Idealize.ShloMosaic Idealize.ShloMosaic.TcCoe Idealize.SL.Sem

variable {F : FTy → Type} [FloatOps F] [Named F]

variable (m : (ℓ : Loc nD τ sig) → Buf (Elt F) ℓ) (c : Dev nD)

theorem lt_rows (t : Fin cfg0.N) (i : Fin 256) : 256 * t.val + i.val < 37376 := by
  have := lt_of_lt_of_eq t.isLt (show cfg0.N = 146 from N_0)
  omega

/-- Row `i` of point `t`'s block, as a row of the arrays. -/
def row (t : Fin cfg0.N) (i : Fin 256) : Fin 37376 := ⟨256 * t.val + i.val, lt_rows t i⟩

theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, t.val] := (by decide +kernel : ∀ t : Fin grid0.N, win0_5.index t = ![0, t.val])
theorem idx6 : ∀ t : Fin cfg0.N, win0_6.index t = ![t.val, 0] := (by decide +kernel : ∀ t : Fin grid0.N, win0_6.index t = ![t.val, 0])
theorem idx7 : ∀ t : Fin cfg0.N, win0_7.index t = ![0, t.val] := (by decide +kernel : ∀ t : Fin grid0.N, win0_7.index t = ![0, t.val])

theorem idx1 : ∀ t : Fin cfg0.N, win0_1.index t = ![0, 0] := (by decide +kernel : ∀ t : Fin grid0.N, win0_1.index t = ![0, 0])

theorem iblk2_apply (t : Fin cfg0.N) (i : Fin 256) (j : Fin 2048) :
    (iblk m c 2 t : Vec F S256x2048 .f32) (ix2 i j) = m ((c : Thread nD τ).loc main_arg0) (ix2 (row t i) j) := by
  blk_point [iblk, V, idx2, row]

theorem iblk3_apply (t : Fin cfg0.N) (i : Fin 256) (j : Fin 2048) :
    (iblk m c 3 t : Vec F S256x2048 .bf16) (ix2 i j) = m ((c : Thread nD τ).loc main_arg1) (ix2 (row t i) j) := by
  blk_ext [iblk, V, idx3, row]

theorem iblk4_apply (t : Fin cfg0.N) (i : Fin 256) (j : Fin 2048) :
    (iblk m c 4 t : Vec F S256x2048 .fp8e4m3) (ix2 i j)
      = bitcastToFloat (F := F) .fp8e4m3 (m ((c : Thread nD τ).loc main_arg2)) (ix2 (row t i) j) := by
  blk_ext [iblk, V, idx4, row]

theorem iblk5_apply (t : Fin cfg0.N) (i : Fin 16) (j : Fin 256) :
    (iblk m c 5 t : Vec F S16x256 .f32) (ix2 i j) = m ((c : Thread nD τ).loc main_arg3) (ix2 (row t j) i) := by
  have h : (iblk m c 5 t : Vec F S16x256 .f32) (ix2 i j) = V m c main_v3 (ix2 i (row t j)) := by
    blk_ext [iblk, idx5, row]
  rw [h]
  entry_read
  pointwise

theorem iblk6_apply (t : Fin cfg0.N) (i : Fin 256) (j : Fin 2048) :
    (iblk m c 6 t : Vec F S256x2048 .fp8e5m2) (ix2 i j)
      = bitcastToFloat (F := F) .fp8e5m2 (m ((c : Thread nD τ).loc main_arg4)) (ix2 (row t i) j) := by
  blk_ext [iblk, V, idx6, row]

theorem iblk7_apply (t : Fin cfg0.N) (i : Fin 16) (j : Fin 256) :
    (iblk m c 7 t : Vec F S16x256 .f32) (ix2 i j) = m ((c : Thread nD τ).loc main_arg5) (ix2 (row t j) i) := by
  have h : (iblk m c 7 t : Vec F S16x256 .f32) (ix2 i j) = V m c main_v4 (ix2 i (row t j)) := by
    blk_ext [iblk, idx7, row]
  rw [h]
  entry_read
  pointwise

theorem iblk1_eq (t : Fin cfg0.N) : (iblk m c 1 t : Vec F S8x128 .f32) = m ((c : Thread nD τ).loc main_arg7) := by
  funext y
  blk_ext [iblk, V, idx1]

theorem iblk0_eq (t : Fin cfg0.N) (y : S1.Idx) :
    (iblk m c 0 t : Vec F S1 .i32) y = m ((c : Thread nD τ).loc main_arg6) (fun a : Fin 0 => a.elim0) := by
  have h : (iblk m c 0 t : Vec F S1 .i32) y = V m c main_v2 ((win0_0.blk t).view.emb y) := rfl
  rw [h]
  entry_read
  exact congrArg (m ((c : Thread nD τ).loc main_arg6)) (funext fun a : Fin 0 => a.elim0)

end Cert.UpdateIdeal.Tile

end
-- ==== Proof.Clip.lean ====
module

public import proofs.«01_k».proof.Proof.Consts

/-! The clip factor, `min (1, 1 / (√s + 1e-6))` of the gradient's sum of squares `s`: a real number whatever `s` is. -/

@[expose] public section

noncomputable section

namespace Cert.Element

open Idealize.ShloMosaic

/-- The clip factor of a sum of squares. -/
def clipOf (s : EReal) : EReal := min 1 (Ideal.div 1 (Ideal.sqrt s + ((Consts.clipEps : ℝ) : EReal)))

theorem clipOf_bot (s : EReal) (h : Ideal.sqrt s = ⊥) : clipOf s = ((0 : ℝ) : EReal) := by
  rw [clipOf, h, EReal.bot_add, Ideal.div, if_neg (by simp), EReal.inv_bot, mul_zero]
  simp

theorem exists_clip (s : EReal) : ∃ r : ℝ, clipOf s = (r : EReal) := by
  induction s with
  | bot => exact ⟨0, clipOf_bot ⊥ rfl⟩
  | top =>
    refine ⟨0, ?_⟩
    rw [clipOf, show Ideal.sqrt ⊤ = ⊤ from rfl, EReal.top_add_coe, Ideal.div, if_neg (by simp), EReal.inv_top, mul_zero]
    simp
  | coe x =>
    by_cases hx : x < 0
    · exact ⟨0, clipOf_bot x (if_pos hx)⟩
    · have hp : (0 : ℝ) < √x + Consts.clipEps := add_pos_of_nonneg_of_pos (Real.sqrt_nonneg x) (by norm_num [Consts.clipEps])
      refine ⟨min 1 (1 / (√x + Consts.clipEps)), ?_⟩
      rw [clipOf, show Ideal.sqrt (x : EReal) = ((√x : ℝ) : EReal) from if_neg hx, ← EReal.coe_add, Ideal.div_coe hp.ne', one_mul,
        EReal.coe_strictMono.monotone.map_min, EReal.coe_one]

/-- The clip factor is between 0 and 1. -/
theorem clip_mem {s : EReal} {r : ℝ} (h : clipOf s = (r : EReal)) : 0 ≤ r ∧ r ≤ 1 := by
  refine ⟨?_, EReal.coe_le_coe_iff.1 (by rw [← h, EReal.coe_one]; exact min_le_left _ _)⟩
  induction s with
  | bot => rw [clipOf_bot ⊥ rfl, EReal.coe_eq_coe_iff] at h; exact h.le
  | top =>
    rw [clipOf, show Ideal.sqrt ⊤ = ⊤ from rfl, EReal.top_add_coe, Ideal.div, if_neg (by simp), EReal.inv_top, mul_zero] at h
    refine EReal.coe_le_coe_iff.1 ?_
    rw [← h]
    simp
  | coe x =>
    by_cases hx : x < 0
    · rw [clipOf_bot x (if_pos hx), EReal.coe_eq_coe_iff] at h; exact h.le
    · have hp : (0 : ℝ) < √x + Consts.clipEps := add_pos_of_nonneg_of_pos (Real.sqrt_nonneg x) (by norm_num [Consts.clipEps])
      rw [clipOf, show Ideal.sqrt (x : EReal) = ((√x : ℝ) : EReal) from if_neg hx, ← EReal.coe_add, Ideal.div_coe hp.ne', one_mul,
        ← EReal.coe_one, ← EReal.coe_strictMono.monotone.map_min, EReal.coe_eq_coe_iff] at h
      rw [← h]
      exact le_min zero_le_one (by positivity)

end Cert.Element

end
-- ==== Proof.State.lean ====
module

public import proofs.«01_k».proof.Pre_state_in_range
public import proofs.«01_k».proof.Proof.Clip
public import proofs.«01_k».proof.Proof.QuantConsts
public import Idealize.ShloMosaic.Lib.ReduceAll
public import Idealize.ShloMosaic.Lib.Affine
public import Idealize.ShloMosaic.Lib.WordCmp
public import Idealize.ShloMosaic.Lib.Pointwise

/-! What the precondition says of the arguments: every number is real, a code is a real number of its format, and the
parts of the second moment are zero or well above the guard of the kernel's root. -/

@[expose] public section

set_option maxRecDepth 16384

noncomputable section

namespace Cert.State

open Idealize.ShloMosaic Cert.Pre_state_in_range

theorem ofBits_big : Ideal.ofBits .f32 0x5D800000#32 < ⊤ := by
  simp [Ideal.ofBits, Ideal.ieee, -EReal.coe_mul]

theorem ofBits_inf : Ideal.ofBits .f32 0x7F800000#32 = ⊤ := by
  simp [Ideal.ofBits, Ideal.ieee]

theorem ofBits_grad : Ideal.ofBits .f32 0x23800000#32 = ((1 / 2 ^ 56 : ℝ) : EReal) := by
  simp [Ideal.ofBits, Ideal.ieee, -EReal.coe_mul]; norm_num

theorem ofBits_scale : Ideal.ofBits .f32 0x0A800000#32 = ((1 / 2 ^ 106 : ℝ) : EReal) := by
  simp [Ideal.ofBits, Ideal.ieee, -EReal.coe_mul]; norm_num

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem abs_coe (r : ℝ) : max (r : EReal) (-(r : EReal)) = ((|r| : ℝ) : EReal) := by
  rw [abs_eq_max_neg, EReal.coe_strictMono.monotone.map_max, EReal.coe_neg]

/-- A code of the first moment whose low seven bits are not all ones is a real number. -/
theorem mcode_real (w : BitVec 8) (h : IntOp.andi (w.signExtend 32) 127#32 ≠ 127#32) :
    ∃ r : ℝ, Ideal.ofBits .fp8e4m3 w = (r : EReal) := by
  have hw : ¬ ((w.extractLsb' 3 4).toNat = 15 ∧ (w.extractLsb' 0 3).toNat = 7) := by
    revert h; revert w; decide +kernel
  show ∃ r : ℝ, Ideal.e4m3fn w = (r : EReal)
  unfold Ideal.e4m3fn
  dsimp only
  rw [if_neg hw]
  split
  · exact ⟨_, rfl⟩
  · exact ⟨_, rfl⟩

/-- A code of the second moment from `0` to `0x7B` is zero or a real number of at least `2 ^ -16`. -/
theorem vcode_real (w : BitVec 8) (h0 : 0 ≤ (w.signExtend 32).toInt) (h1 : (w.signExtend 32).toInt < 124) :
    ∃ r : ℝ, Ideal.ofBits .fp8e5m2 w = (r : EReal) ∧ (r = 0 ∨ 1 / 2 ^ 16 ≤ r) := by
  have hw : (w.extractLsb' 7 1 == 1#1) = false ∧ (w.extractLsb' 2 5).toNat ≠ 2 ^ 5 - 1 := by
    revert h0 h1; revert w; decide +kernel
  show ∃ r : ℝ, Ideal.ieee 5 2 w = (r : EReal) ∧ _
  unfold Ideal.ieee
  dsimp only
  rw [hw.1, if_neg hw.2]
  generalize (w.extractLsb' 2 5).toNat = ex
  generalize (w.extractLsb' 0 2).toNat = fr
  split
  · refine ⟨_, rfl, ?_⟩
    rcases Nat.eq_zero_or_pos fr with rfl | hf
    · left; norm_num
    · right
      have : (1 : ℝ) ≤ fr := by exact_mod_cast hf
      norm_num
      linarith
  · rename_i hex
    refine ⟨_, rfl, Or.inr ?_⟩
    have h1 : (1 : ℝ) ≤ (2 ^ 2 + fr : ℕ) := by exact_mod_cast (by omega : 1 ≤ 2 ^ 2 + fr)
    have h2 : (1 / 2 ^ 16 : ℝ) ≤ (2 : ℝ) ^ ((ex : ℤ) - (2 ^ (5 - 1) - 1) - 2) := by
      rw [show (1 / 2 ^ 16 : ℝ) = (2 : ℝ) ^ (-16 : ℤ) by norm_num]
      refine zpow_le_zpow_right₀ (by norm_num) ?_
      norm_num
      omega
    have h3 : (0 : ℝ) < (2 : ℝ) ^ ((ex : ℤ) - (2 ^ (5 - 1) - 1) - 2) := by positivity
    norm_num at h1 h2 h3 ⊢
    nlinarith

theorem real_of_abs_lt {x : EReal} {b : EReal} (h : max x (-x) ≤ b) (hb : b < ⊤) : ∃ r : ℝ, x = (r : EReal) := by
  induction x with
  | bot => simp at h; exact absurd h hb.ne
  | top => simp at h; exact absurd h hb.ne
  | coe r => exact ⟨r, rfl⟩

/-- What the precondition says, element by element. -/
structure Good (P : FVec Ideal S37376x2048 .f32) (G : FVec Ideal S37376x2048 .bf16) (mc : IVec S37376x2048 8)
    (ms : FVec Ideal S37376x16 .f32) (vc : IVec S37376x2048 8) (vs : FVec Ideal S37376x16 .f32) (step : IVec S_ 32)
    (gsum : FVec Ideal S8x128 .f32) : Prop where
  step_pos : ∀ i, 1 ≤ (step i).toInt
  gsum_const : ∀ i, gsum i = gsum (ix2 0 0)
  param : ∀ i, ∃ p : ℝ, P i = (p : EReal)
  grad : ∀ i, ∃ g : ℝ, G i = (g : EReal) ∧ ∀ k : ℝ, Element.clipOf (gsum (ix2 0 0)) = (k : EReal) → g = 0 ∨ 1 / 2 ^ 56 ≤ |g| * k
  mcode : ∀ i, ∃ r : ℝ, Ideal.ofBits .fp8e4m3 (mc i) = (r : EReal)
  mscale : ∀ i, ∃ r : ℝ, ms i = (r : EReal)
  vcode : ∀ i, ∃ r : ℝ, Ideal.ofBits .fp8e5m2 (vc i) = (r : EReal) ∧ (r = 0 ∨ 1 / 2 ^ 16 ≤ r)
  vscale : ∀ i, ∃ r : ℝ, vs i = (r : EReal) ∧ (r = 0 ∨ 1 / 2 ^ 106 ≤ r)
  grad_le : ∀ i, max (G i) (-G i) ≤ Ideal.ofBits .f32 0x5D800000#32
  mscale_le : ∀ i, max (ms i) (-ms i) ≤ Ideal.ofBits .f32 0x5D800000#32
  vscale_le : ∀ i, vs i ≤ Ideal.ofBits .f32 0x5D800000#32
  mword : ∀ i, IntOp.andi ((mc i).signExtend 32) 127#32 ≠ 127#32
  vword : ∀ i, 0 ≤ ((vc i).signExtend 32).toInt ∧ ((vc i).signExtend 32).toInt < 124

theorem cmp_iff {p : Prop} [Decidable p] : BitVec.ofBool (decide p) = 1#1 ↔ p := by
  by_cases h : p <;> simp [h]

theorem good [Facts] {P : FVec Ideal S37376x2048 .f32} {G : FVec Ideal S37376x2048 .bf16} {mc : IVec S37376x2048 8}
    {ms : FVec Ideal S37376x16 .f32} {vc : IVec S37376x2048 8} {vs : FVec Ideal S37376x16 .f32} {step : IVec S_ 32}
    {gsum : FVec Ideal S8x128 .f32} (h : fn P G mc ms vc vs step gsum = fun _ => 1#1) : Good P G mc ms vc vs step gsum := by
  dsimp only [fn, fn_part1, fn_part2, fn_part3] at h
  have e := congrFun h (fun a : Fin 0 => a.elim0)
  simp only [WordCmp.andi_at, IntOp.andi_eq_one] at e
  obtain ⟨⟨⟨⟨⟨⟨hstep, hgs⟩, hP⟩, hG, hG0⟩, hmc, hms⟩, hvc⟩, hvs⟩ := e
  replace hgs := Host.reduce_andi_all _ _ _ _ _ hgs
  replace hP := Host.reduce_andi_all _ _ _ _ _ hP
  replace hG := Host.reduce_andi_all _ _ _ _ _ hG
  replace hG0 := Host.reduce_andi_all _ _ _ _ _ hG0
  replace hmc := Host.reduce_andi_all _ _ _ _ _ hmc
  replace hms := Host.reduce_andi_all _ _ _ _ _ hms
  replace hvc := Host.reduce_andi_all _ _ _ _ _ hvc
  replace hvs := Host.reduce_andi_all _ _ _ _ _ hvs
  have big : Ideal.ofBits .f32 0x5D800000#32 < ⊤ := ofBits_big
  refine ⟨fun i => ?_, fun i => ?_, fun i => ?_, fun i => ?_, fun i => ?_, fun i => ?_, fun i => ?_, fun i => ?_,
    fun i => cmp_iff.1 (hG i), fun i => cmp_iff.1 (hms i), fun i => ?_, fun i => IntOp.cmpi_ne.1 (hmc i),
    fun i => ⟨IntOp.cmpi_sge.1 (IntOp.andi_eq_one.1 (hvc i)).1, IntOp.cmpi_slt.1 (IntOp.andi_eq_one.1 (hvc i)).2⟩⟩
  · have := IntOp.cmpi_sge.1 hstep
    rw [Subsingleton.elim i (fun a : Fin 0 => a.elim0)]
    exact this
  · refine (cmp_iff.1 (hgs i : BitVec.ofBool (decide (_ = _)) = 1#1)).trans ?_
    pointwise
  · have h1 : max (P i) (-P i) < Ideal.ofBits .f32 0x7F800000#32 := cmp_iff.1 (hP i)
    rw [ofBits_inf] at h1
    exact real_of_abs_lt le_rfl h1
  · have h1 : max (G i) (-G i) ≤ Ideal.ofBits .f32 0x5D800000#32 := cmp_iff.1 (hG i)
    obtain ⟨g, hg⟩ := real_of_abs_lt h1 big
    refine ⟨g, hg, fun k hk => ?_⟩
    have h2 := IntOp.ori_eq_one.1 (hG0 i)
    refine h2.imp (fun h2 => ?_) fun h2 => ?_
    · have h3 : max (G i) (-G i) = Ideal.ofBits .f32 0x00000000#32 := cmp_iff.1 h2
      rw [ofBits_zero, hg, abs_coe, EReal.coe_eq_zero, abs_eq_zero] at h3
      exact h3
    · have h3 : Ideal.ofBits .f32 0x23800000#32 ≤ max (G i) (-G i) * min (Ideal.ofBits .f32 0x3F800000#32)
          (Ideal.div (Ideal.ofBits .f32 0x3F800000#32) (Ideal.sqrt (shapeCast S_ (extractStridedSlice S1x1 ![0, 0] gsum
            Facts.slices_S8x128_S1x1_0_0) Facts.shapeCasts_S1x1_S_ (fun a : Fin 0 => a.elim0)) + Ideal.ofBits .f32 0x358637BD#32)) :=
        cmp_iff.1 h2
      rw [show shapeCast S_ (extractStridedSlice S1x1 ![0, 0] gsum Facts.slices_S8x128_S1x1_0_0) Facts.shapeCasts_S1x1_S_
          (fun a : Fin 0 => a.elim0) = gsum (ix2 0 0) by pointwise, ofBits_one, Consts.ofBits_clipEps, ← Element.clipOf, hk, hg,
        abs_coe, ofBits_grad, ← EReal.coe_mul] at h3
      exact EReal.coe_le_coe_iff.1 h3
  · exact mcode_real _ (IntOp.cmpi_ne.1 (hmc i))
  · have h1 : max (ms i) (-ms i) ≤ Ideal.ofBits .f32 0x5D800000#32 := cmp_iff.1 (hms i)
    exact real_of_abs_lt h1 big
  · have h1 := IntOp.andi_eq_one.1 (hvc i)
    exact vcode_real _ (IntOp.cmpi_sge.1 h1.1) (IntOp.cmpi_slt.1 h1.2)
  · rcases IntOp.ori_eq_one.1 (hvs i) with h1 | h1
    · have h2 : vs i = Ideal.ofBits .f32 0x00000000#32 := cmp_iff.1 h1
      exact ⟨0, by rw [h2, ofBits_zero]; rfl, Or.inl rfl⟩
    · have h2 : Ideal.ofBits .f32 0x0A800000#32 ≤ vs i := cmp_iff.1 (IntOp.andi_eq_one.1 h1).1
      have h3 : vs i ≤ Ideal.ofBits .f32 0x5D800000#32 := cmp_iff.1 (IntOp.andi_eq_one.1 h1).2
      rw [ofBits_scale] at h2
      have h4 := (EReal.coe_toReal (h3.trans_lt big).ne ((EReal.bot_lt_coe _).trans_le h2).ne').symm
      refine ⟨_, h4, Or.inr ?_⟩
      rw [h4] at h2
      exact EReal.coe_le_coe_iff.1 h2
  · rcases IntOp.ori_eq_one.1 (hvs i) with h1 | h1
    · have h2 : vs i = Ideal.ofBits .f32 0x00000000#32 := cmp_iff.1 h1
      rw [h2, ofBits_zero, Consts.ofBits_two60]
      exact EReal.coe_nonneg.2 (by norm_num)
    · exact cmp_iff.1 (IntOp.andi_eq_one.1 h1).2

end Cert.State

end
-- ==== Proof.Meant.lean ====
module

public import proofs.«01_k».proof.Proof.State
public import proofs.«01_k».proof.Proof.Element

/-! The moments and the parameter update as real numbers, read off the arguments; the second moment of a state in range
is zero or at least the guard of the kernel's root. -/

@[expose] public section

noncomputable section

namespace Cert.Meant

open Idealize.ShloMosaic Cert.Pre_state_in_range

variable (P : FVec Ideal S37376x2048 .f32) (G : FVec Ideal S37376x2048 .bf16) (mc : IVec S37376x2048 8)
  (ms : FVec Ideal S37376x16 .f32) (vc : IVec S37376x2048 8) (vs : FVec Ideal S37376x16 .f32) (step : IVec S_ 32)
  (gsum : FVec Ideal S8x128 .f32)

/-- The group of a column. -/
def group (j : Fin 2048) : Fin 16 := ⟨j.val / 128, by omega⟩

/-- The clip factor. -/
def clip : ℝ := (Element.clipOf (gsum (ix2 0 0))).toReal

theorem clip_eq : Element.clipOf (gsum (ix2 0 0)) = (clip gsum : EReal) := by
  obtain ⟨k, hk⟩ := Element.exists_clip (gsum (ix2 0 0))
  rw [clip, hk, EReal.toReal_coe]

/-- The new first moment. -/
def newM (R : Fin 37376) (j : Fin 2048) : ℝ :=
  Element.newM (G (ix2 R j)).toReal (clip gsum) (Ideal.ofBits .fp8e4m3 (mc (ix2 R j)) : EReal).toReal (ms (ix2 R (group j))).toReal

/-- The new second moment. -/
def newV (R : Fin 37376) (j : Fin 2048) : ℝ :=
  Element.newV (G (ix2 R j)).toReal (clip gsum) (Ideal.ofBits .fp8e5m2 (vc (ix2 R j)) : EReal).toReal (vs (ix2 R (group j))).toReal

/-- The number of the step. -/
def stepOf : ℝ := ((step (fun a : Fin 0 => a.elim0)).toInt : ℝ)

/-- The parameter update. -/
def update (R : Fin 37376) (j : Fin 2048) : ℝ :=
  Element.update (newM G mc ms gsum R j) (newV G vc vs gsum R j) (P (ix2 R j)).toReal (stepOf step)

variable {P G mc ms vc vs step gsum} (h : State.Good P G mc ms vc vs step gsum)

include h

theorem param_eq (i) : P i = ((P i).toReal : EReal) := by obtain ⟨r, hr⟩ := h.param i; rw [hr, EReal.toReal_coe]
theorem grad_eq (i) : G i = (EReal.toReal (G i) : EReal) := by obtain ⟨r, hr, -⟩ := h.grad i; rw [hr, EReal.toReal_coe]
theorem mcode_eq (i) : Ideal.ofBits .fp8e4m3 (mc i) = ((Ideal.ofBits .fp8e4m3 (mc i) : EReal).toReal : EReal) := by
  obtain ⟨r, hr⟩ := h.mcode i; rw [hr, EReal.toReal_coe]
theorem mscale_eq (i) : ms i = ((ms i).toReal : EReal) := by obtain ⟨r, hr⟩ := h.mscale i; rw [hr, EReal.toReal_coe]
theorem vcode_eq (i) : Ideal.ofBits .fp8e5m2 (vc i) = ((Ideal.ofBits .fp8e5m2 (vc i) : EReal).toReal : EReal) := by
  obtain ⟨r, hr, -⟩ := h.vcode i; rw [hr, EReal.toReal_coe]
theorem vscale_eq (i) : vs i = ((vs i).toReal : EReal) := by obtain ⟨r, hr, -⟩ := h.vscale i; rw [hr, EReal.toReal_coe]

theorem one_le_step : 1 ≤ stepOf step := by
  have := h.step_pos (fun a : Fin 0 => a.elim0)
  rw [stepOf]
  exact_mod_cast this

theorem newV_guard (R : Fin 37376) (j : Fin 2048) : newV G vc vs gsum R j = 0 ∨ Consts.rootGuard ≤ newV G vc vs gsum R j := by
  obtain ⟨g, hg, hk⟩ := h.grad (ix2 R j)
  obtain ⟨vc', hvc, hc0⟩ := h.vcode (ix2 R j)
  obtain ⟨vs', hvs, hs0⟩ := h.vscale (ix2 R (group j))
  have hk := hk _ (clip_eq gsum)
  rw [newV, hg, hvc, hvs, EReal.toReal_coe, EReal.toReal_coe, EReal.toReal_coe, Element.newV]
  generalize clip gsum = k at hk
  have hd : vc' * vs' = 0 ∨ 1 / 2 ^ 122 ≤ vc' * vs' := by
    rcases hc0 with rfl | hc0
    · simp
    rcases hs0 with rfl | hs0
    · simp
    right
    calc (1 / 2 ^ 122 : ℝ) = 1 / 2 ^ 16 * (1 / 2 ^ 106) := by norm_num
      _ ≤ vc' * vs' := mul_le_mul hc0 hs0 (by positivity) (le_trans (by positivity) hc0)
  have hg2 : g * k * (g * k) = 0 ∨ 1 / 2 ^ 112 ≤ g * k * (g * k) := by
    rcases hk with rfl | hk
    · simp
    right
    calc (1 / 2 ^ 112 : ℝ) = 1 / 2 ^ 56 * (1 / 2 ^ 56) := by norm_num
      _ ≤ (|g| * k) * (|g| * k) := mul_self_le_mul_self (by positivity) hk
      _ = g * k * (g * k) := by rw [mul_mul_mul_comm, abs_mul_abs_self, mul_mul_mul_comm]
  have e1 : (Consts.rootGuard : ℝ) ≤ Consts.beta2 * (1 / 2 ^ 122) := by norm_num [Consts.rootGuard, Consts.beta2]
  have e2 : (Consts.rootGuard : ℝ) ≤ 1 / 1000 * (1 / 2 ^ 112) := by norm_num [Consts.rootGuard]
  have hb : (0 : ℝ) < Consts.beta2 := by norm_num [Consts.beta2]
  have hsq : 0 ≤ g * k * (g * k) := mul_self_nonneg _
  rcases hd with hd | hd
  · rw [hd]
    rcases hg2 with hg2 | hg2
    · left; rw [hg2]; simp
    · right; linarith
  · right
    have := mul_le_mul_of_nonneg_left hd hb.le
    linarith

end Cert.Meant

end
-- ==== Proof.ArrayValue.lean ====
module

public import proofs.«01_k».proof.Proof.TileValue
public import proofs.«01_k».proof.Proof.Outs
public import proofs.«01_k».proof.Proof.Blocks
public import proofs.«01_k».proof.Proof.Meant

/-! The kernel's array of the parameter update, entry by entry, as the real number it means. -/

@[expose] public section

set_option maxRecDepth 16384

noncomputable section

namespace Cert.UpdateIdeal.Tile

open Cert.UpdateIdeal Cert.UpdateIdeal.Gen Idealize.ShloMosaic Idealize.ShloMosaic.TcCoe Idealize.SL.Sem

section Cell

variable {F : FTy → Type} [FloatOps F] [Named F]

/-- Row `a` of chunk `r` in a block, and column `b` of group `q`. -/
def rowIn (r : Fin 2) (a : Fin 128) : Fin 256 := ⟨128 * r.val + a.val, by omega⟩
def colIn (q : Fin 16) (b : Fin 128) : Fin 2048 := ⟨128 * q.val + b.val, by omega⟩

theorem ld_tile {e : EltTy} (x : Vec F S256x2048 e) (r : Fin 2) (q : Fin 16) (a b : Fin 128) :
    View.ld x (tile r q) (ix2 a b) = x (ix2 (rowIn r a) (colIn q b)) := by
  pointwise [rowIn, colIn]

theorem ld_rows {e : EltTy} (x : Vec F S16x256 e) (r : Fin 2) (q : Fin 16) (a : Fin 128) :
    View.ld x (rows r) (ix2 q a) = x (ix2 q (rowIn r a)) := by
  pointwise [rowIn]

theorem group_col (q : Fin 16) (b : Fin 128) : Meant.group (colIn q b) = q :=
  Fin.ext (by show (128 * q.val + b.val) / 128 = q.val; omega)

variable (m : (ℓ : Loc nD τ sig) → Buf (Elt F) ℓ) (c : Dev nD) (t : Fin cfg0.N) (r : Fin 2) (q : Fin 16) (a b : Fin 128)

theorem loads_step : (loads m c t).step = m ((c : Thread nD τ).loc main_arg6) (fun a : Fin 0 => a.elim0) :=
  iblk0_eq m c t ((Rect.unit ![0] S1.size inb_S1_S1_0).emb (Shape.Idx.first (numel1_S1 ▸ Nat.one_pos)))

theorem loads_gsum : (loads m c t).gsum = m ((c : Thread nD τ).loc main_arg7) := by
  rw [← iblk1_eq m c t]
  funext y
  obtain ⟨a, b, rfl⟩ : ∃ a b, y = ix2 a b := ⟨_, _, eq_ix2 y⟩
  show View.ld (iblk m c 1 t : Vec F S8x128 .f32) (Rect.unit ![0, 0] S8x128.size inb_S8x128_S8x128_0_0) (ix2 a b) = _
  pointwise

theorem loads_p : (loads m c t).p r q (ix2 a b) = m ((c : Thread nD τ).loc main_arg0) (ix2 (row t (rowIn r a)) (colIn q b)) :=
  (ld_tile _ r q a b).trans (iblk2_apply m c t _ _)

theorem loads_g : (loads m c t).g r q (ix2 a b) = m ((c : Thread nD τ).loc main_arg1) (ix2 (row t (rowIn r a)) (colIn q b)) :=
  (ld_tile _ r q a b).trans (iblk3_apply m c t _ _)

theorem loads_mc : (loads m c t).mc r q (ix2 a b)
    = bitcastToFloat (F := F) .fp8e4m3 (m ((c : Thread nD τ).loc main_arg2)) (ix2 (row t (rowIn r a)) (colIn q b)) :=
  (ld_tile _ r q a b).trans (iblk4_apply m c t _ _)

theorem loads_ms : (loads m c t).ms r (ix2 q a) = m ((c : Thread nD τ).loc main_arg3) (ix2 (row t (rowIn r a)) q) :=
  (ld_rows _ r q a).trans (iblk5_apply m c t _ _)

theorem loads_vc : (loads m c t).vc r q (ix2 a b)
    = bitcastToFloat (F := F) .fp8e5m2 (m ((c : Thread nD τ).loc main_arg4)) (ix2 (row t (rowIn r a)) (colIn q b)) :=
  (ld_tile _ r q a b).trans (iblk6_apply m c t _ _)

theorem loads_vs : (loads m c t).vs r (ix2 q a) = m ((c : Thread nD τ).loc main_arg5) (ix2 (row t (rowIn r a)) q) :=
  (ld_rows _ r q a).trans (iblk7_apply m c t _ _)

end Cell

/-- The clip row of the kernel. -/
theorem clip_row (gsum : Vec Ideal S8x128 .f32) (hg : ∀ i, gsum i = gsum (ix2 0 0)) (i : S8x128.Idx) :
    k0_pay7 gsum i = Element.clipOf (gsum (ix2 0 0)) := by
  rw [← hg i]
  obtain ⟨a, b, rfl⟩ : ∃ a b, i = ix2 a b := ⟨_, _, eq_ix2 i⟩
  pointwise [k0_pay7]
  rw [Consts.ofBits_clipEps]
  rfl

section Value

variable (m : (ℓ : Loc nD τ sig) → Buf (Elt Ideal) ℓ) (c : Dev nD)

/-- The precondition of a device's arguments. -/
abbrev Good : Prop :=
  State.Good (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The new moments and the parameter update of a device's arguments. -/
def newM : Fin 37376 → Fin 2048 → ℝ :=
  Meant.newM (m ((c : Thread nD τ).loc main_arg1)) (m ((c : Thread nD τ).loc main_arg2)) (m ((c : Thread nD τ).loc main_arg3))
    (m ((c : Thread nD τ).loc main_arg7))
def newV : Fin 37376 → Fin 2048 → ℝ :=
  Meant.newV (m ((c : Thread nD τ).loc main_arg1)) (m ((c : Thread nD τ).loc main_arg4)) (m ((c : Thread nD τ).loc main_arg5))
    (m ((c : Thread nD τ).loc main_arg7))
def update : Fin 37376 → Fin 2048 → ℝ :=
  Meant.update (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

variable {m c} (h : Good m c) (t : Fin cfg0.N) (r : Fin 2) (q : Fin 16) (a b : Fin 128)

include h

theorem clip_loads : k0_pay7 (loads m c t).gsum (ix2 0 b) = ((Meant.clip (m ((c : Thread nD τ).loc main_arg7)) : ℝ) : EReal) := by
  rw [loads_gsum, clip_row _ h.gsum_const]
  exact Meant.clip_eq _

theorem mAt_loads : mAt (loads m c t) r q (ix2 a b) = ((newM m c (row t (rowIn r a)) (colIn q b) : ℝ) : EReal) := by
  refine (mAt_apply (fun _ => rfl) (clip_loads h t b) ((loads_g m c t r q a b).trans (Meant.grad_eq h _))
    ((loads_mc m c t r q a b).trans (Meant.mcode_eq h _)) ((loads_ms m c t r q a).trans (Meant.mscale_eq h _))).trans ?_
  rw [newM, Meant.newM, group_col]

theorem vAt_loads : vAt (loads m c t) r q (ix2 a b) = ((newV m c (row t (rowIn r a)) (colIn q b) : ℝ) : EReal) := by
  refine (vAt_apply (fun _ => rfl) (clip_loads h t b) ((loads_g m c t r q a b).trans (Meant.grad_eq h _))
    ((loads_vc m c t r q a b).trans (Meant.vcode_eq h _)) ((loads_vs m c t r q a).trans (Meant.vscale_eq h _))).trans ?_
  rw [newV, Meant.newV, group_col]

theorem dpAt_loads : dpAt (loads m c t) r q (ix2 a b) = ((update m c (row t (rowIn r a)) (colIn q b) : ℝ) : EReal) := by
  have hs := Meant.one_le_step h
  have e := dpAt_apply (L := loads m c t) (r := r) (q := q) (a := a) (b := b) (by rw [loads_step]; exact hs) (mAt_loads h t r q a b) (vAt_loads h t r q a b)
    ((loads_p m c t r q a b).trans (Meant.param_eq h _)) (Meant.newV_guard h _ _)
  rw [e, loads_step]
  rfl

/-- A point's block of the parameter update. -/
theorem dp_block (i : Fin 256) (j : Fin 2048) :
    (outsAt0 m c t.val t.isLt).1 (ix2 i j) = ((update m c (row t i) j : ℝ) : EReal) := by
  rw [dp_out]
  refine View.canon_apply_of_pieces (Val := Elt Ideal) (e := .f32) (fun y : S256x2048.Idx => ((update m c (row t (y 0)) (y 1) : ℝ) : EReal)) _ ?_ _
    (cover_tiles _ _)
  intro p hp x
  obtain ⟨rq, -, rfl⟩ := List.mem_map.mp hp
  obtain ⟨a, b, rfl⟩ : ∃ a b, x = ix2 a b := ⟨_, _, eq_ix2 (n0 := 128) (n1 := 128) x⟩
  refine (dpAt_loads h t rq.1 rq.2 a b).trans ?_
  congr 3
  · exact Fin.ext (by show 128 * rq.1.val + a.val = 128 * rq.1.val + 1 * a.val; omega)
  · exact Fin.ext (by show 128 * rq.2.val + b.val = 128 * rq.2.val + 1 * b.val; omega)

/-- The kernel's array of the parameter update. -/
theorem dp_array (i : S37376x2048.Idx) : Value.G8 m c i = ((update m c (i 0) (i 1) : ℝ) : EReal) := by
  have h0 : (i 0).val < 37376 := (i 0).isLt
  have h1 : (i 1).val < 2048 := (i 1).isLt
  have hp : Value.pt8Of i = (i 0).val / 256 := by
    show 1 * ((i 0).val / 256 - 0) + 1 * ((i 1).val / 2048 - 0) = _
    omega
  have hN : Value.pt8Of i < cfg0.N := by rw [hp, show cfg0.N = 146 from N_0]; omega
  rw [Value.G8, dif_pos hN, ← Value.outsAt0_sweep m c _ hN]
  have hl : Value.loc8Of i = ix2 (⟨(i 0).val % 256, by omega⟩ : Fin 256) (⟨(i 1).val, h1⟩ : Fin 2048) := by
    funext a
    match a with
    | ⟨0, _⟩ => exact rfl
    | ⟨1, _⟩ => exact Fin.ext (Nat.mod_eq_of_lt h1)
  rw [hl]
  refine (dp_block h ⟨Value.pt8Of i, hN⟩ _ _).trans ?_
  congr 3
  exact Fin.ext (by show 256 * Value.pt8Of i + (i 0).val % 256 = (i 0).val; rw [hp]; omega)

end Value

end Cert.UpdateIdeal.Tile

end
-- ==== Proof.Decode.lean ====
module

public import proofs.«01_k».proof.Proof.State

/-! The codes of the moments as the claimed mask decodes them: a code's exponent and mantissa put in the fields of an f32
pattern, the number multiplied by the difference of the exponents' biases. -/

@[expose] public section

noncomputable section

namespace Cert.State

open Idealize.ShloMosaic

/-- A code's magnitude as a pattern of an f32, its mantissa of `23 - s` bits. -/
def field (s : ℕ) (w : BitVec 8) : BitVec 32 := IntOp.andi (w.signExtend 32) 127#32 <<< s

theorem field_m : ∀ w : BitVec 8, ((field 20 w).extractLsb' 31 1 == 1#1) = false
    ∧ ((field 20 w).extractLsb' 23 8).toNat = (w.extractLsb' 3 4).toNat
    ∧ ((field 20 w).extractLsb' 0 23).toNat = 2 ^ 20 * (w.extractLsb' 0 3).toNat
    ∧ (w.extractLsb' 7 1 == 1#1) = decide (w.toInt < 0) ∧ (w.extractLsb' 3 4).toNat < 16 ∧ (w.extractLsb' 0 3).toNat < 8 := by
  decide +kernel

theorem field_v : ∀ w : BitVec 8, 0 ≤ (w.signExtend 32).toInt → (w.signExtend 32).toInt < 124 →
    ((field 21 w).extractLsb' 31 1 == 1#1) = false
    ∧ ((field 21 w).extractLsb' 23 8).toNat = (w.extractLsb' 2 5).toNat
    ∧ ((field 21 w).extractLsb' 0 23).toNat = 2 ^ 21 * (w.extractLsb' 0 2).toNat
    ∧ (w.extractLsb' 7 1 == 1#1) = false ∧ (w.extractLsb' 2 5).toNat < 31 ∧ (w.extractLsb' 0 2).toNat < 4 ∧ ¬ w.toInt < 0 := by
  decide +kernel

/-- The magnitude of a code of the first moment, decoded. -/
theorem decode_m {w : BitVec 8} (h : IntOp.andi (w.signExtend 32) 127#32 ≠ 127#32) :
    ∃ r : ℝ, 0 ≤ r ∧ r ≤ 448 ∧ Ideal.ofBits .f32 (field 20 w) * Ideal.ofBits .f32 0x7B800000#32 = (r : EReal)
      ∧ Ideal.ofBits .fp8e4m3 w = ((if w.toInt < 0 then -r else r : ℝ) : EReal) := by
  have hw : ¬ ((w.extractLsb' 3 4).toNat = 15 ∧ (w.extractLsb' 0 3).toNat = 7) := by
    revert h; revert w; decide +kernel
  obtain ⟨h1, h2, h3, h4, h5, h6⟩ := field_m w
  have e1 : Ideal.ofBits .f32 (field 20 w) = Ideal.ieee 8 23 (field 20 w) := rfl
  have e2 : Ideal.ofBits .fp8e4m3 w = Ideal.e4m3fn w := rfl
  rw [e1, e2, Consts.ofBits_two120]
  unfold Ideal.ieee Ideal.e4m3fn
  dsimp only
  rw [h1, h2, h3, h4, if_neg hw]
  clear e1 e2 h1 h2 h3 h4
  generalize (w.extractLsb' 3 4).toNat = ex at hw h5
  generalize (w.extractLsb' 0 3).toNat = fr at hw h6
  rw [if_neg (by omega)]
  have hs : (if decide (w.toInt < 0) = true then (-1 : ℝ) else 1) = if w.toInt < 0 then -1 else 1 := by simp
  rw [hs]
  have hf : (fr : ℝ) < 8 := by exact_mod_cast h6
  by_cases hex : ex = 0
  · rw [if_pos hex, if_pos hex, ← EReal.coe_mul]
    refine ⟨fr * 2 ^ (-9 : ℤ), mul_nonneg (Nat.cast_nonneg _) (zpow_nonneg (by norm_num) _), ?_, ?_, ?_⟩
    · norm_num; linarith
    · refine congrArg Real.toEReal ?_; push_cast; norm_num; ring
    · refine congrArg Real.toEReal ?_; split <;> ring
  · rw [if_neg hex, if_neg hex, ← EReal.coe_mul]
    refine ⟨(8 + fr : ℕ) * 2 ^ ((ex : ℤ) - 10), by positivity, ?_, ?_, ?_⟩
    · by_cases h15 : ex = 15
      · have : fr ≤ 6 := by omega
        have : (fr : ℝ) ≤ 6 := by exact_mod_cast this
        rw [h15]; norm_num; linarith
      · have : (2 : ℝ) ^ ((ex : ℤ) - 10) ≤ 2 ^ (4 : ℤ) := zpow_le_zpow_right₀ (by norm_num) (by omega)
        have h0 : (0 : ℝ) < (2 : ℝ) ^ ((ex : ℤ) - 10) := by positivity
        norm_num at this ⊢
        nlinarith
    · refine congrArg Real.toEReal ?_
      rw [show (ex : ℤ) - (2 ^ (8 - 1) - 1) - (23 : ℕ) = ((ex : ℤ) - 10) + (-140) by norm_num; ring, zpow_add₀ (by norm_num)]
      push_cast; norm_num; ring
    · refine congrArg Real.toEReal ?_; split <;> ring

/-- The same of a code of the second moment, which is not negative. -/
theorem decode_v {w : BitVec 8} (h0 : 0 ≤ (w.signExtend 32).toInt) (h1 : (w.signExtend 32).toInt < 124) :
    ∃ r : ℝ, 0 ≤ r ∧ r ≤ 57344 ∧ Ideal.ofBits .f32 (field 21 w) * Ideal.ofBits .f32 0x77800000#32 = (r : EReal)
      ∧ Ideal.ofBits .fp8e5m2 w = (r : EReal) ∧ ¬ w.toInt < 0 := by
  obtain ⟨h1, h2, h3, h4, h5, h6, h7⟩ := field_v w h0 h1
  have e1 : Ideal.ofBits .f32 (field 21 w) = Ideal.ieee 8 23 (field 21 w) := rfl
  have e2 : Ideal.ofBits .fp8e5m2 w = Ideal.ieee 5 2 w := rfl
  rw [e1, e2, Consts.ofBits_two112]
  unfold Ideal.ieee
  dsimp only
  rw [h1, h2, h3, h4]
  clear e1 e2 h1 h2 h3 h4
  generalize (w.extractLsb' 2 5).toNat = ex at h5
  generalize (w.extractLsb' 0 2).toNat = fr at h6
  rw [if_neg (by omega), if_neg (by omega : ¬ ex = 2 ^ 5 - 1)]
  have hf : (fr : ℝ) ≤ 3 := by exact_mod_cast (by omega : fr ≤ 3)
  by_cases hex : ex = 0
  · rw [if_pos hex, if_pos hex, ← EReal.coe_mul]
    refine ⟨fr * 2 ^ (-16 : ℤ), mul_nonneg (Nat.cast_nonneg _) (zpow_nonneg (by norm_num) _), ?_, ?_, ?_, h7⟩
    · norm_num; linarith
    · refine congrArg Real.toEReal ?_; push_cast; norm_num; ring
    · refine congrArg Real.toEReal ?_; norm_num
  · rw [if_neg hex, if_neg hex, ← EReal.coe_mul]
    refine ⟨(4 + fr : ℕ) * 2 ^ ((ex : ℤ) - 17), by positivity, ?_, ?_, ?_, h7⟩
    · have : (2 : ℝ) ^ ((ex : ℤ) - 17) ≤ 2 ^ (13 : ℤ) := zpow_le_zpow_right₀ (by norm_num) (by omega)
      have h0 : (0 : ℝ) < (2 : ℝ) ^ ((ex : ℤ) - 17) := by positivity
      norm_num at this ⊢
      nlinarith
    · refine congrArg Real.toEReal ?_
      rw [show (ex : ℤ) - (2 ^ (8 - 1) - 1) - (23 : ℕ) = ((ex : ℤ) - 17) + (-133) by norm_num; ring, zpow_add₀ (by norm_num)]
      push_cast; norm_num; ring
    · refine congrArg Real.toEReal ?_
      rw [show (ex : ℤ) - (2 ^ (5 - 1) - 1) - (2 : ℕ) = (ex : ℤ) - 17 by norm_num; ring]
      norm_num

end Cert.State

end
-- ==== Proof.Bound.lean ====
module

public import proofs.«01_k».proof.Proof.Meant
public import proofs.«01_k».proof.Proof.Decode
public import proofs.«01_k».proof.Proof.Top

/-! How large the new moments of a state in range can be: below the range in which the kernel's search for the exponent
and its scales stay finite. -/

@[expose] public section

noncomputable section

namespace Cert.Meant

open Idealize.ShloMosaic Cert.Pre_state_in_range

variable {P : FVec Ideal S37376x2048 .f32} {G : FVec Ideal S37376x2048 .bf16} {mc : IVec S37376x2048 8}
  {ms : FVec Ideal S37376x16 .f32} {vc : IVec S37376x2048 8} {vs : FVec Ideal S37376x16 .f32} {step : IVec S_ 32}
  {gsum : FVec Ideal S8x128 .f32} (h : State.Good P G mc ms vc vs step gsum)

/-- Column `b` of group `q`. -/
def colOf (q : Fin 16) (b : Fin 128) : Fin 2048 := ⟨128 * q.val + b.val, by omega⟩

/-- The greatest magnitude of a row's group. -/
def top (x : Fin 37376 → Fin 2048 → ℝ) (R : Fin 37376) (q : Fin 16) : ℝ := Scale.top fun b => x R (colOf q b)

/-- A code: a number times its group's inverse scale, kept in the format's range. -/
def quant (lo hi x u : ℝ) : ℝ := min hi (max lo (x * u))

theorem quant_coe (lo hi x u : ℝ) :
    min (hi : EReal) (max (lo : EReal) ((x : EReal) * (u : EReal))) = ((quant lo hi x u : ℝ) : EReal) := by
  rw [← EReal.coe_mul, ← EReal.coe_strictMono.monotone.map_max, ← EReal.coe_strictMono.monotone.map_min]
  rfl

theorem top_nonneg (x : Fin 37376 → Fin 2048 → ℝ) (R : Fin 37376) (q : Fin 16) : 0 ≤ top x R q := Scale.top_nonneg

theorem abs_le_of_coe {r c : ℝ} (h : max (r : EReal) (-(r : EReal)) ≤ (c : EReal)) : |r| ≤ c := by
  rw [State.abs_coe] at h; exact EReal.coe_le_coe_iff.1 h

include h

theorem grad_clip_le (i) : |(G i).toReal * clip gsum| ≤ 2 ^ 60 := by
  have h1 := h.grad_le i
  rw [grad_eq h i, Consts.ofBits_two60] at h1
  have h2 := abs_le_of_coe h1
  obtain ⟨h3, h4⟩ := Element.clip_mem (clip_eq gsum)
  rw [abs_mul, abs_of_nonneg h3]
  nlinarith [abs_nonneg (EReal.toReal (G i))]

theorem newM_le (R : Fin 37376) (j : Fin 2048) : |newM G mc ms gsum R j| ≤ 2 ^ 70 := by
  have h1 := h.mscale_le (ix2 R (group j))
  rw [mscale_eq h, Consts.ofBits_two60] at h1
  have h2 := abs_le_of_coe h1
  obtain ⟨r, r0, r1, -, hr⟩ := State.decode_m (h.mword (ix2 R j))
  have h3 : |(Ideal.ofBits .fp8e4m3 (mc (ix2 R j)) : EReal).toReal| ≤ 448 := by
    rw [hr, EReal.toReal_coe, abs_le]
    split <;> constructor <;> linarith
  have h4 := grad_clip_le h (ix2 R j)
  rw [newM, Element.newM]
  generalize (Ideal.ofBits .fp8e4m3 (mc (ix2 R j)) : EReal).toReal = c at h3
  generalize (ms (ix2 R (group j))).toReal = s at h2
  generalize (G (ix2 R j)).toReal * clip gsum = g at h4
  have h5 : |c * s| ≤ 448 * 2 ^ 60 := by
    rw [abs_mul]; exact mul_le_mul h3 h2 (abs_nonneg _) (by norm_num)
  rw [abs_le] at h4 h5 ⊢
  constructor <;> norm_num at h4 h5 ⊢ <;> linarith [h4.1, h4.2, h5.1, h5.2]

theorem newV_nonneg (R : Fin 37376) (j : Fin 2048) : 0 ≤ newV G vc vs gsum R j := by
  rcases newV_guard h R j with e | e
  · exact e.ge
  · exact (show (0 : ℝ) ≤ Consts.rootGuard by norm_num [Consts.rootGuard]).trans e

theorem newV_le (R : Fin 37376) (j : Fin 2048) : |newV G vc vs gsum R j| ≤ 2 ^ 121 := by
  have h1 := h.vscale_le (ix2 R (group j))
  obtain ⟨s, hs, hs0⟩ := h.vscale (ix2 R (group j))
  rw [hs, Consts.ofBits_two60] at h1
  have h2 := EReal.coe_le_coe_iff.1 h1
  obtain ⟨r, r0, r1, -, hr, -⟩ := State.decode_v (h.vword (ix2 R j)).1 (h.vword (ix2 R j)).2
  have h4 := grad_clip_le h (ix2 R j)
  rw [abs_of_nonneg (newV_nonneg h R j), newV, Element.newV, hs, hr, EReal.toReal_coe, EReal.toReal_coe]
  generalize (G (ix2 R j)).toReal * clip gsum = g at h4
  have hg : g * g ≤ 2 ^ 60 * 2 ^ 60 := by rw [← abs_mul_abs_self]; exact mul_self_le_mul_self (abs_nonneg _) h4
  have hs' : 0 ≤ s := by
    rcases hs0 with e | e
    · exact e.ge
    · exact le_trans (by positivity) e
  have h5 : r * s ≤ 57344 * 2 ^ 60 := mul_le_mul r1 h2 hs' (by norm_num)
  norm_num [Consts.beta2] at h5 hg ⊢
  nlinarith

theorem topM_lt (R : Fin 37376) (q : Fin 16) : 16 * (Consts.mMul * top (newM G mc ms gsum) R q) < (2 : ℝ) ^ (127 : ℤ) := by
  have := Scale.top_le fun b => newM_le h R (colOf q b)
  rw [top]
  norm_num [Consts.mMul] at this ⊢
  linarith

theorem topV_lt (R : Fin 37376) (q : Fin 16) : 16 * (Consts.vMul * top (newV G vc vs gsum) R q) < (2 : ℝ) ^ (127 : ℤ) := by
  have := Scale.top_le fun b => newV_le h R (colOf q b)
  rw [top]
  norm_num [Consts.vMul] at this ⊢
  linarith

end Cert.Meant

end
-- ==== Proof.QuantValue.lean ====
module

public import proofs.«01_k».proof.Proof.QuantOuts
public import proofs.«01_k».proof.Proof.QuantScale
public import proofs.«01_k».proof.Proof.ArrayValue
public import proofs.«01_k».proof.Proof.Bound

/-! A block's scales and codes, entry by entry, as the real numbers they mean. -/

@[expose] public section

set_option maxRecDepth 16384

noncomputable section

namespace Cert.UpdateIdeal.Tile

open Cert.UpdateIdeal Cert.UpdateIdeal.Gen Idealize.ShloMosaic Idealize.ShloMosaic.TcCoe Idealize.SL.Sem

section Read

variable {F : FTy → Type} [FloatOps F] [Named F] [∀ e, Nonempty (Elt F e)]

theorem mem_strips (f : Fin 16 → FVec F S128x128 .f32) (y : S128x2048.Idx) : ∃ p ∈ stripPieces f, y ∈ p.1.set := by
  have h0 : (y 0).val < 128 := (y 0).isLt
  have h1 : (y 1).val < 2048 := (y 1).isLt
  let q : Fin 16 := ⟨(y 1).val / 128, by omega⟩
  refine ⟨_, List.mem_map.mpr ⟨q, by simp, rfl⟩, ?_⟩
  show y ∈ (strip q).set
  refine (Rect.mem_set_unit (inb := inb_strip q)).mpr fun a => ?_
  match a with
  | ⟨0, _⟩ => exact ⟨Nat.zero_le _, show (y 0).val < 0 + 128 by omega⟩
  | ⟨1, _⟩ => exact ⟨show 128 * ((y 1).val / 128) ≤ (y 1).val by omega, show (y 1).val < 128 * ((y 1).val / 128) + 128 by omega⟩

end Read

section Scratch

variable {f : Fin 2 → Fin 16 → FVec Ideal S128x128 .f32} {g : Fin 2 → Fin 128 → Fin 2048 → ℝ}
  (h : ∀ r q a b, f r q (ix2 a b) = ((g r a (colIn q b) : ℝ) : EReal)) (r : Fin 2)

include h

theorem strip_entry : ∀ p ∈ stripPieces (f r), ∀ x, p.2 x
    = (fun y : S128x2048.Idx => ((g r (y 0) (y 1) : ℝ) : EReal)) (p.1.emb x) := by
  intro p hp x
  obtain ⟨q, -, rfl⟩ := List.mem_map.mp hp
  obtain ⟨a, b, rfl⟩ : ∃ a b, x = ix2 a b := ⟨_, _, eq_ix2 (n0 := 128) (n1 := 128) x⟩
  have e : k0_pay20 (f r q) (ix2 a b) = f r q (ix2 a b) := by pointwise [k0_pay20]
  refine (e.trans (h r q a b)).trans ?_
  refine congrArg Real.toEReal (congrArg₂ (g r) ?_ ?_)
  · exact Fin.ext (by show a.val = 0 + 1 * a.val; omega)
  · exact Fin.ext (by show 128 * q.val + b.val = 128 * q.val + 1 * b.val; omega)

theorem scratch_entry (y : S128x2048.Idx) : View.canon (scratch f r) y = ((g r (y 0) (y 1) : ℝ) : EReal) := by
  match r with
  | 0 =>
    exact View.canon_apply_of_pieces (Val := Elt Ideal) (e := .f32) (fun y : S128x2048.Idx => ((g 0 (y 0) (y 1) : ℝ) : EReal))
      (stripPieces (f 0)) (strip_entry h 0) _ (mem_strips _ y)
  | 1 =>
    exact View.canon_append_of_pieces (Val := Elt Ideal) (e := .f32) (fun y : S128x2048.Idx => ((g 1 (y 0) (y 1) : ℝ) : EReal))
      (stripPieces (f 0)) (stripPieces (f 1)) (strip_entry h 1) _ (mem_strips _ y)

theorem kept_entry (p : Fin 8) (a : Fin 128) (b : Fin 256) :
    kept f r p (ix2 a b) = ((g r a ⟨256 * p.val + b.val, by omega⟩ : ℝ) : EReal) := by
  refine (scratch_entry h r _).trans ?_
  refine congrArg Real.toEReal (congrArg₂ (g r) ?_ ?_)
  · exact Fin.ext (by show 0 + 1 * a.val = a.val; omega)
  · exact Fin.ext (by show 256 * p.val + 1 * b.val = 256 * p.val + b.val; omega)

end Scratch

section Code

theorem spread_apply (p : Fin 8) (i : Fin 16) (b : Fin 256) :
    View.ld (indicator (F := Ideal)) (spread p) (ix2 i b) = if i.val = 2 * p.val + b.val / 128 then 1 else 0 := by
  have h : View.ld (indicator (F := Ideal)) (spread p) (ix2 i b)
      = (indicator (F := Ideal)) (ix2 ⟨i.val, by omega⟩ ⟨256 * p.val + b.val, by omega⟩) := by
    pointwise
  rw [h, indicator_apply]
  congr 1
  simp only [eq_iff_iff]
  omega

/-- A pair of groups' inverses: column `b` has the inverse of its own group. -/
theorem sum_spread (w : FVec Ideal S16x256 .bf16) (p : Fin 8) (a b : Fin 256) (q : Fin 16) (hq : q.val = 2 * p.val + b.val / 128) :
    k0_pay383 w (View.ld indicator (spread p)) (ix2 a b) = w (ix2 q a) := by
  have e : k0_pay383 w (View.ld indicator (spread p)) (ix2 a b)
      = ∑ i : Fin 16, (w (ix2 i a) : EReal) * View.ld (indicator (F := Ideal)) (spread p) (ix2 i b) := by
    generalize View.ld (indicator (F := Ideal)) (spread p) = k
    pointwise [k0_pay383]
  rw [e, Finset.sum_eq_single q]
  · rw [spread_apply, if_pos hq]; exact mul_one _
  · intro i _ hi
    rw [spread_apply, if_neg fun e => hi (Fin.ext (e.trans hq.symm))]; exact mul_zero _
  · intro hi; exact absurd (Finset.mem_univ q) hi

theorem invs_low (L : Loads Ideal) (r : Fin 2) (q : Fin 16) (a : Fin 128) :
    invs L r (ix2 q ⟨a.val, by omega⟩) = invT (topM L r) (ix2 q a) := by
  generalize hx : invT (topM L r) = x
  rw [invs, hx]
  pointwise

theorem invs_high (L : Loads Ideal) (r : Fin 2) (q : Fin 16) (a : Fin 128) :
    invs L r (ix2 q ⟨128 + a.val, by omega⟩) = invT (topV L r) (ix2 q a) := by
  generalize hx : invT (topV L r) = x
  rw [invs, hx]
  pointwise

variable {w : FVec Ideal S16x256 .bf16} {x : FVec Ideal S128x256 .f32} {p : Fin 8} {a : Fin 128} {b : Fin 256} {q : Fin 16} {n u : ℝ}
  (hq : q.val = 2 * p.val + b.val / 128) (hx : x (ix2 a b) = (n : EReal))

include hq hx

theorem codeM_apply (hw : w (ix2 q ⟨a.val, by omega⟩) = (u : EReal)) :
    k0_pay384 w (View.ld indicator (spread p)) x (ix2 a b) = ((Meant.quant (-448) 448 n u : ℝ) : EReal) := by
  have e := sum_spread w p ⟨a.val, by omega⟩ b q hq
  generalize View.ld (indicator (F := Ideal)) (spread p) = k at e ⊢
  generalize hy : k0_pay383 w k = y at e
  rw [k0_pay384, hy]
  pointwise
  rw [hx, e, hw, Consts.ofBits_448, Consts.ofBits_neg448]
  exact Meant.quant_coe _ _ _ _

theorem codeV_apply (hw : w (ix2 q ⟨128 + a.val, by omega⟩) = (u : EReal)) :
    k0_pay385 w (View.ld indicator (spread p)) x (ix2 a b) = ((Meant.quant 0 57344 n u : ℝ) : EReal) := by
  have e := sum_spread w p ⟨128 + a.val, by omega⟩ b q hq
  generalize View.ld (indicator (F := Ideal)) (spread p) = k at e ⊢
  generalize hy : k0_pay383 w k = y at e
  rw [k0_pay385, hy]
  pointwise
  rw [hx, e, hw, Consts.ofBits_57344, ← EReal.coe_zero]
  exact Meant.quant_coe _ _ _ _

end Code

end Cert.UpdateIdeal.Tile

end
-- ==== Proof.QuantArray.lean ====
module

public import proofs.«01_k».proof.Proof.QuantValue

/-! The kernel's arrays of the codes and the scales, entry by entry, as the real numbers they mean. -/

@[expose] public section

set_option maxRecDepth 16384

noncomputable section

namespace Cert.UpdateIdeal.Tile

open Cert.UpdateIdeal Cert.UpdateIdeal.Gen Idealize.ShloMosaic Idealize.ShloMosaic.TcCoe Idealize.SL.Sem

variable {m : (ℓ : Loc nD τ sig) → Buf (Elt Ideal) ℓ} {c : Dev nD} (h : Good m c) (t : Fin cfg0.N) (r : Fin 2) (q : Fin 16)
  (a : Fin 128)

/-- The multiplied greatest magnitudes of the new moments of a device's arguments. -/
def magM (m : (ℓ : Loc nD τ sig) → Buf (Elt Ideal) ℓ) (c : Dev nD) (R : Fin 37376) (q : Fin 16) : ℝ :=
  Consts.mMul * Meant.top (newM m c) R q
def magV (m : (ℓ : Loc nD τ sig) → Buf (Elt Ideal) ℓ) (c : Dev nD) (R : Fin 37376) (q : Fin 16) : ℝ :=
  Consts.vMul * Meant.top (newV m c) R q

include h

theorem topM_loads : topM (loads m c t) r (ix2 q a) = ((16 * magM m c (row t (rowIn r a)) q : ℝ) : EReal) :=
  topM_apply fun b => mAt_loads h t r q a b

theorem topV_loads : topV (loads m c t) r (ix2 q a) = ((16 * magV m c (row t (rowIn r a)) q : ℝ) : EReal) :=
  topV_apply fun b => vAt_loads h t r q a b

theorem scalesM (R : Fin 37376) :
    Ideal.ofBits .f32 (Scale.scaleWord (Scale.word ((16 * magM m c R q : ℝ) : EReal))) = ((Scale.scale (magM m c R q) : ℝ) : EReal)
      ∧ Ideal.ofBits .f32 (Scale.invWord (Scale.word ((16 * magM m c R q : ℝ) : EReal))) = ((Scale.inv (magM m c R q) : ℝ) : EReal) :=
  Scale.scale_inv (mul_nonneg Consts.mMul_pos.le (Meant.top_nonneg _ _ _)) (Meant.topM_lt h R q)

theorem scalesV (R : Fin 37376) :
    Ideal.ofBits .f32 (Scale.scaleWord (Scale.word ((16 * magV m c R q : ℝ) : EReal))) = ((Scale.scale (magV m c R q) : ℝ) : EReal)
      ∧ Ideal.ofBits .f32 (Scale.invWord (Scale.word ((16 * magV m c R q : ℝ) : EReal))) = ((Scale.inv (magV m c R q) : ℝ) : EReal) :=
  Scale.scale_inv (mul_nonneg Consts.vMul_pos.le (Meant.top_nonneg _ _ _)) (Meant.topV_lt h R q)

theorem scaleM_loads : scaleT (topM (loads m c t) r) (ix2 q a) = ((Scale.scale (magM m c (row t (rowIn r a)) q) : ℝ) : EReal) := by
  rw [scaleT_apply, topM_loads h]
  exact (scalesM h q _).1

theorem scaleV_loads : scaleT (topV (loads m c t) r) (ix2 q a) = ((Scale.scale (magV m c (row t (rowIn r a)) q) : ℝ) : EReal) := by
  rw [scaleT_apply, topV_loads h]
  exact (scalesV h q _).1

theorem invM_loads : invs (loads m c t) r (ix2 q ⟨a.val, by omega⟩)
    = ((Scale.inv (magM m c (row t (rowIn r a)) q) : ℝ) : EReal) := by
  rw [invs_low, invT_apply, topM_loads h]
  exact (scalesM h q _).2

theorem invV_loads : invs (loads m c t) r (ix2 q ⟨128 + a.val, by omega⟩)
    = ((Scale.inv (magV m c (row t (rowIn r a)) q) : ℝ) : EReal) := by
  rw [invs_high, invT_apply, topV_loads h]
  exact (scalesV h q _).2

/-- A point's blocks of the scales. -/
theorem scaleM_block (i : Fin 16) (j : Fin 256) :
    (outsAt0 m c t.val t.isLt).2.2.1 (ix2 i j) = ((Scale.scale (magM m c (row t j) i) : ℝ) : EReal) := by
  rw [scaleM_out]
  refine View.canon_apply_of_pieces (Val := Elt Ideal) (e := .f32)
    (fun y : S16x256.Idx => ((Scale.scale (magM m c (row t (y 1)) (y 0)) : ℝ) : EReal)) _ ?_ _ (cover_scale _ _)
  intro p hp x
  have key : ∀ r : Fin 2, ∀ x : S16x128.Idx, scaleT (topM (loads m c t) r) x
      = ((Scale.scale (magM m c (row t ((rows r).emb x 1)) ((rows r).emb x 0)) : ℝ) : EReal) := fun r x => by
    obtain ⟨q, a, rfl⟩ : ∃ q a, x = ix2 q a := ⟨_, _, eq_ix2 (n0 := 16) (n1 := 128) x⟩
    refine (scaleM_loads h t r q a).trans (congrArg (fun z : ℝ => (Scale.scale z : EReal)) (congrArg₂ (magM m c) (congrArg (row t) ?_) ?_))
    · exact Fin.ext (by show 128 * r.val + a.val = 128 * r.val + 1 * a.val; omega)
    · exact Fin.ext (by show q.val = 0 + 1 * q.val; omega)
  rcases List.mem_cons.1 hp with e | hp
  · subst e; exact key 1 x
  · obtain rfl := List.mem_singleton.1 hp; exact key 0 x

theorem scaleV_block (i : Fin 16) (j : Fin 256) :
    (outsAt0 m c t.val t.isLt).2.2.2.2.1 (ix2 i j) = ((Scale.scale (magV m c (row t j) i) : ℝ) : EReal) := by
  rw [scaleV_out]
  refine View.canon_apply_of_pieces (Val := Elt Ideal) (e := .f32)
    (fun y : S16x256.Idx => ((Scale.scale (magV m c (row t (y 1)) (y 0)) : ℝ) : EReal)) _ ?_ _ (cover_scale _ _)
  intro p hp x
  have key : ∀ r : Fin 2, ∀ x : S16x128.Idx, scaleT (topV (loads m c t) r) x
      = ((Scale.scale (magV m c (row t ((rows r).emb x 1)) ((rows r).emb x 0)) : ℝ) : EReal) := fun r x => by
    obtain ⟨q, a, rfl⟩ : ∃ q a, x = ix2 q a := ⟨_, _, eq_ix2 (n0 := 16) (n1 := 128) x⟩
    refine (scaleV_loads h t r q a).trans (congrArg (fun z : ℝ => (Scale.scale z : EReal)) (congrArg₂ (magV m c) (congrArg (row t) ?_) ?_))
    · exact Fin.ext (by show 128 * r.val + a.val = 128 * r.val + 1 * a.val; omega)
    · exact Fin.ext (by show q.val = 0 + 1 * q.val; omega)
  rcases List.mem_cons.1 hp with e | hp
  · subst e; exact key 1 x
  · obtain rfl := List.mem_singleton.1 hp; exact key 0 x

omit h

/-- The codes the new moments of a device's arguments have by the kernel. -/
def quantM (m : (ℓ : Loc nD τ sig) → Buf (Elt Ideal) ℓ) (c : Dev nD) (R : Fin 37376) (j : Fin 2048) : ℝ :=
  Meant.quant (-448) 448 (newM m c R j) (Scale.inv (magM m c R (Meant.group j)))
def quantV (m : (ℓ : Loc nD τ sig) → Buf (Elt Ideal) ℓ) (c : Dev nD) (R : Fin 37376) (j : Fin 2048) : ℝ :=
  Meant.quant 0 57344 (newV m c R j) (Scale.inv (magV m c R (Meant.group j)))

include h

/-- A point's blocks of the codes. -/
theorem codeM_block (i : Fin 256) (j : Fin 2048) :
    (outsAt0 m c t.val t.isLt).2.1 (ix2 i j) = ((quantM m c (row t i) j : ℝ) : EReal) := by
  rw [codeM_out]
  refine View.canon_apply_of_pieces (Val := Elt Ideal) (e := .fp8e4m3)
    (fun y : S256x2048.Idx => ((quantM m c (row t (y 0)) (y 1) : ℝ) : EReal)) _ ?_ _ (cover_codeM _ _ _ _)
  intro p hp x
  obtain ⟨rb, -, rfl⟩ := List.mem_map.mp hp
  obtain ⟨a, b, rfl⟩ : ∃ a b, x = ix2 a b := ⟨_, _, eq_ix2 (n0 := 128) (n1 := 256) x⟩
  have hk := kept_entry (g := fun r a j => newM m c (row t (rowIn r a)) j) (fun r q a b => mAt_loads h t r q a b) rb.1 rb.2 a b
  have hi := invM_loads h t rb.1 ⟨2 * rb.2.val + b.val / 128, by omega⟩ a
  refine (codeM_apply rfl hk hi).trans ?_
  refine congrArg Real.toEReal ?_
  have e1 : (code rb.1 rb.2).emb (ix2 a b) 0 = rowIn rb.1 a :=
    Fin.ext (by show 128 * rb.1.val + 1 * a.val = 128 * rb.1.val + a.val; omega)
  have e2 : (code rb.1 rb.2).emb (ix2 a b) 1 = (⟨256 * rb.2.val + b.val, by omega⟩ : Fin 2048) :=
    Fin.ext (by show 256 * rb.2.val + 1 * b.val = 256 * rb.2.val + b.val; omega)
  have e3 : (⟨2 * rb.2.val + b.val / 128, by omega⟩ : Fin 16) = Meant.group ⟨256 * rb.2.val + b.val, by omega⟩ :=
    Fin.ext (by show 2 * rb.2.val + b.val / 128 = (256 * rb.2.val + b.val) / 128; omega)
  rw [e1, e2, e3]
  rfl

theorem codeV_block (i : Fin 256) (j : Fin 2048) :
    (outsAt0 m c t.val t.isLt).2.2.2.1 (ix2 i j) = ((quantV m c (row t i) j : ℝ) : EReal) := by
  rw [codeV_out]
  refine View.canon_apply_of_pieces (Val := Elt Ideal) (e := .fp8e5m2)
    (fun y : S256x2048.Idx => ((quantV m c (row t (y 0)) (y 1) : ℝ) : EReal)) _ ?_ _ (cover_codeV _ _ _ _)
  intro p hp x
  obtain ⟨rb, -, rfl⟩ := List.mem_map.mp hp
  obtain ⟨a, b, rfl⟩ : ∃ a b, x = ix2 a b := ⟨_, _, eq_ix2 (n0 := 128) (n1 := 256) x⟩
  have hk := kept_entry (g := fun r a j => newV m c (row t (rowIn r a)) j) (fun r q a b => vAt_loads h t r q a b) rb.1 rb.2 a b
  have hi := invV_loads h t rb.1 ⟨2 * rb.2.val + b.val / 128, by omega⟩ a
  refine (codeV_apply rfl hk hi).trans ?_
  refine congrArg Real.toEReal ?_
  have e1 : (code rb.1 rb.2).emb (ix2 a b) 0 = rowIn rb.1 a :=
    Fin.ext (by show 128 * rb.1.val + 1 * a.val = 128 * rb.1.val + a.val; omega)
  have e2 : (code rb.1 rb.2).emb (ix2 a b) 1 = (⟨256 * rb.2.val + b.val, by omega⟩ : Fin 2048) :=
    Fin.ext (by show 256 * rb.2.val + 1 * b.val = 256 * rb.2.val + b.val; omega)
  have e3 : (⟨2 * rb.2.val + b.val / 128, by omega⟩ : Fin 16) = Meant.group ⟨256 * rb.2.val + b.val, by omega⟩ :=
    Fin.ext (by show 2 * rb.2.val + b.val / 128 = (256 * rb.2.val + b.val) / 128; omega)
  rw [e1, e2, e3]
  rfl

/-- The kernel's arrays of the codes. -/
theorem codeM_array (i : S37376x2048.Idx) : Value.G9 m c i = ((quantM m c (i 0) (i 1) : ℝ) : EReal) := by
  have h0 : (i 0).val < 37376 := (i 0).isLt
  have h1 : (i 1).val < 2048 := (i 1).isLt
  have hp : Value.pt9Of i = (i 0).val / 256 := by
    show 1 * ((i 0).val / 256 - 0) + 1 * ((i 1).val / 2048 - 0) = _
    omega
  have hN : Value.pt9Of i < cfg0.N := by rw [hp, show cfg0.N = 146 from N_0]; omega
  rw [Value.G9, dif_pos hN, ← Value.outsAt0_sweep m c _ hN]
  have hl : Value.loc9Of i = ix2 (⟨(i 0).val % 256, by omega⟩ : Fin 256) (⟨(i 1).val, h1⟩ : Fin 2048) := by
    funext a
    match a with
    | ⟨0, _⟩ => exact rfl
    | ⟨1, _⟩ => exact Fin.ext (Nat.mod_eq_of_lt h1)
  rw [hl]
  refine (codeM_block h ⟨Value.pt9Of i, hN⟩ _ _).trans ?_
  refine congrArg Real.toEReal (congrArg₂ (quantM m c) ?_ rfl)
  exact Fin.ext (by show 256 * Value.pt9Of i + (i 0).val % 256 = (i 0).val; rw [hp]; omega)

theorem codeV_array (i : S37376x2048.Idx) : Value.G11 m c i = ((quantV m c (i 0) (i 1) : ℝ) : EReal) := by
  have h0 : (i 0).val < 37376 := (i 0).isLt
  have h1 : (i 1).val < 2048 := (i 1).isLt
  have hp : Value.pt11Of i = (i 0).val / 256 := by
    show 1 * ((i 0).val / 256 - 0) + 1 * ((i 1).val / 2048 - 0) = _
    omega
  have hN : Value.pt11Of i < cfg0.N := by rw [hp, show cfg0.N = 146 from N_0]; omega
  rw [Value.G11, dif_pos hN, ← Value.outsAt0_sweep m c _ hN]
  have hl : Value.loc11Of i = ix2 (⟨(i 0).val % 256, by omega⟩ : Fin 256) (⟨(i 1).val, h1⟩ : Fin 2048) := by
    funext a
    match a with
    | ⟨0, _⟩ => exact rfl
    | ⟨1, _⟩ => exact Fin.ext (Nat.mod_eq_of_lt h1)
  rw [hl]
  refine (codeV_block h ⟨Value.pt11Of i, hN⟩ _ _).trans ?_
  refine congrArg Real.toEReal (congrArg₂ (quantV m c) ?_ rfl)
  exact Fin.ext (by show 256 * Value.pt11Of i + (i 0).val % 256 = (i 0).val; rw [hp]; omega)

/-- The kernel's arrays of the scales. -/
theorem scaleM_array (i : S16x37376.Idx) : Value.G10 m c i = ((Scale.scale (magM m c (i 1) (i 0)) : ℝ) : EReal) := by
  have h0 : (i 0).val < 16 := (i 0).isLt
  have h1 : (i 1).val < 37376 := (i 1).isLt
  have hp : Value.pt10Of i = (i 1).val / 256 := by
    show 146 * ((i 0).val / 16 - 0) + 1 * ((i 1).val / 256 - 0) = _
    omega
  have hN : Value.pt10Of i < cfg0.N := by rw [hp, show cfg0.N = 146 from N_0]; omega
  rw [Value.G10, dif_pos hN, ← Value.outsAt0_sweep m c _ hN]
  have hl : Value.loc10Of i = ix2 (⟨(i 0).val, h0⟩ : Fin 16) (⟨(i 1).val % 256, by omega⟩ : Fin 256) := by
    funext a
    match a with
    | ⟨0, _⟩ => exact Fin.ext (Nat.mod_eq_of_lt h0)
    | ⟨1, _⟩ => exact rfl
  rw [hl]
  refine (scaleM_block h ⟨Value.pt10Of i, hN⟩ _ _).trans ?_
  refine congrArg (fun z : ℝ => (Scale.scale z : EReal)) (congrArg₂ (magM m c) ?_ rfl)
  exact Fin.ext (by show 256 * Value.pt10Of i + (i 1).val % 256 = (i 1).val; rw [hp]; omega)

theorem scaleV_array (i : S16x37376.Idx) : Value.G12 m c i = ((Scale.scale (magV m c (i 1) (i 0)) : ℝ) : EReal) := by
  have h0 : (i 0).val < 16 := (i 0).isLt
  have h1 : (i 1).val < 37376 := (i 1).isLt
  have hp : Value.pt12Of i = (i 1).val / 256 := by
    show 146 * ((i 0).val / 16 - 0) + 1 * ((i 1).val / 256 - 0) = _
    omega
  have hN : Value.pt12Of i < cfg0.N := by rw [hp, show cfg0.N = 146 from N_0]; omega
  rw [Value.G12, dif_pos hN, ← Value.outsAt0_sweep m c _ hN]
  have hl : Value.loc12Of i = ix2 (⟨(i 0).val, h0⟩ : Fin 16) (⟨(i 1).val % 256, by omega⟩ : Fin 256) := by
    funext a
    match a with
    | ⟨0, _⟩ => exact Fin.ext (Nat.mod_eq_of_lt h0)
    | ⟨1, _⟩ => exact rfl
  rw [hl]
  refine (scaleV_block h ⟨Value.pt12Of i, hN⟩ _ _).trans ?_
  refine congrArg (fun z : ℝ => (Scale.scale z : EReal)) (congrArg₂ (magV m c) ?_ rfl)
  exact Fin.ext (by show 256 * Value.pt12Of i + (i 1).val % 256 = (i 1).val; rw [hp]; omega)

end Cert.UpdateIdeal.Tile

end
-- ==== Proof.RefBlocks.lean ====
module

public import proofs.«01_k».proof.Proof.Gen.ReferenceIdeal.Value
public import proofs.«01_k».proof.Proof.Meant
public import Idealize.ShloMosaic.Lib.Pointwise
public import Idealize.ShloMosaic.Lib.Claim
public import Idealize.ShloMosaic.Lib.Pipeline.ValueKit.Point

/-! What the reference reads: its one grid point takes every array whole. -/

@[expose] public section

set_option maxRecDepth 16384

noncomputable section

namespace Cert.ReferenceIdeal.Whole

open Cert.ReferenceIdeal Cert.ReferenceIdeal.Gen Idealize.ShloMosaic Idealize.ShloMosaic.TcCoe Idealize.SL.Sem

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])

section Blocks

variable {F : FTy → Type} [FloatOps F] [Named F]
variable (m : (ℓ : Loc nD τ sig) → Buf (Elt F) ℓ) (c : Dev nD) (t : Fin cfg0.N)

theorem iblk2_apply (R : Fin 37376) (j : Fin 2048) :
    (iblk m c 2 t : Vec F S37376x2048 .f32) (ix2 R j) = m ((c : Thread nD τ).loc main_arg0) (ix2 R j) := by
  blk_ext [iblk, V, idx2]

theorem iblk3_apply (R : Fin 37376) (j : Fin 2048) :
    (iblk m c 3 t : Vec F S37376x2048 .bf16) (ix2 R j) = m ((c : Thread nD τ).loc main_arg1) (ix2 R j) := by
  blk_ext [iblk, V, idx3]

theorem iblk4_apply (R : Fin 37376) (j : Fin 2048) :
    (iblk m c 4 t : Vec F S37376x2048 .fp8e4m3) (ix2 R j)
      = bitcastToFloat (F := F) .fp8e4m3 (m ((c : Thread nD τ).loc main_arg2)) (ix2 R j) := by
  blk_ext [iblk, V, idx4]

theorem iblk5_apply (R : Fin 37376) (q : Fin 16) :
    (iblk m c 5 t : Vec F S37376x16 .f32) (ix2 R q) = m ((c : Thread nD τ).loc main_arg3) (ix2 R q) := by
  blk_ext [iblk, V, idx5]

theorem iblk6_apply (R : Fin 37376) (j : Fin 2048) :
    (iblk m c 6 t : Vec F S37376x2048 .fp8e5m2) (ix2 R j)
      = bitcastToFloat (F := F) .fp8e5m2 (m ((c : Thread nD τ).loc main_arg4)) (ix2 R j) := by
  blk_ext [iblk, V, idx6]

theorem iblk7_apply (R : Fin 37376) (q : Fin 16) :
    (iblk m c 7 t : Vec F S37376x16 .f32) (ix2 R q) = m ((c : Thread nD τ).loc main_arg5) (ix2 R q) := by
  blk_ext [iblk, V, idx7]

end Blocks

section Scalars

variable (m : (ℓ : Loc nD τ sig) → Buf (Elt Ideal) ℓ) (c : Dev nD) (t : Fin cfg0.N)

theorem clip_apply : (iblk m c 0 t : Vec Ideal S1x1 .f32) (ix2 0 0)
    = Element.clipOf (m ((c : Thread nD τ).loc main_arg7) (ix2 0 0)) := by
  have h : (iblk m c 0 t : Vec Ideal S1x1 .f32) (ix2 0 0) = V m c main_v9 (ix2 0 0) := by
    blk_ext [iblk, idx0]
  rw [h]
  entry_read
  pointwise
  rw [Consts.ofBits_clipEps]
  rfl

theorem step_apply : (iblk m c 1 t : Vec Ideal S1x1 .f32) (ix2 0 0)
    = ((Meant.stepOf (m ((c : Thread nD τ).loc main_arg6)) : ℝ) : EReal) := by
  have h : (iblk m c 1 t : Vec Ideal S1x1 .f32) (ix2 0 0) = V m c main_v10 (ix2 0 0) := by
    blk_ext [iblk, idx1]
  rw [h]
  entry_read
  pointwise
  rfl

end Scalars

end Cert.ReferenceIdeal.Whole

end
-- ==== Proof.RefValue.lean ====
module

public import proofs.«01_k».proof.Proof.RefBlocks

/-! The reference's arrays, entry by entry, as the real numbers they mean. -/

@[expose] public section

set_option maxRecDepth 16384

noncomputable section

namespace Cert.ReferenceIdeal.Whole

open Cert.ReferenceIdeal Cert.ReferenceIdeal.Gen Idealize.ShloMosaic Idealize.ShloMosaic.TcCoe Idealize.SL.Sem

theorem named_beta1 : (Named.named κ "beta1" 0x3F666666#32 : Ideal .f32) = ((9 / 10 : ℝ) : EReal) := rfl
theorem named_one_minus_beta1 : (Named.named κ "one_minus_beta1" 0x3DCCCCCD#32 : Ideal .f32) = ((1 / 10 : ℝ) : EReal) := rfl
theorem named_one_minus_beta2 : (Named.named κ "one_minus_beta2" 0x3A83126F#32 : Ideal .f32) = ((1 / 1000 : ℝ) : EReal) := rfl
theorem named_eps : (Named.named κ "eps" 0x322BCC77#32 : Ideal .f32) = ((1 / 100000000 : ℝ) : EReal) := rfl
theorem named_weight_decay : (Named.named κ "weight_decay" 0x3C23D70A#32 : Ideal .f32) = ((1 / 100 : ℝ) : EReal) := rfl
theorem named_neg_lr : (Named.named κ "neg_lr" 0xBA83126F#32 : Ideal .f32) = ((-1 / 1000 : ℝ) : EReal) := rfl

/-- The reference's bias corrections. -/
theorem bias1_apply {x : Vec Ideal S1x1 .f32} {t : ℝ} (hx : x (ix2 0 0) = (t : EReal)) :
    k0_pay3 x (ix2 0 0) = ((Element.bias1 t : ℝ) : EReal) := by
  pointwise [k0_pay3, k0_pay2]
  rw [hx, named_beta1, Ideal.pow_coe_coe, Element.bias1, EReal.coe_sub]
  rfl

theorem bias2_apply {x : Vec Ideal S1x1 .f32} {t : ℝ} (hx : x (ix2 0 0) = (t : EReal)) :
    k0_pay4 x (ix2 0 0) = ((Element.bias2 t : ℝ) : EReal) := by
  pointwise [k0_pay4, k0_pay2]
  rw [hx, named_one_minus_beta2, ← EReal.coe_one, ← EReal.coe_sub, Ideal.pow_coe_coe, ← EReal.coe_sub,
    show (1 : ℝ) - 1 / 1000 = 999 / 1000 by norm_num]
  rfl

section Entry

variable {G : Vec Ideal S37376x2048 .bf16} {mc : Vec Ideal S37376x2048 .fp8e4m3} {vc : Vec Ideal S37376x2048 .fp8e5m2}
  {ms vs : Vec Ideal S37376x16 .f32} {k : Vec Ideal S1x1 .f32} {R : Fin 37376} {j : Fin 2048} {clip g code scale : ℝ}
  (hk : k (ix2 0 0) = (clip : EReal)) (hg : G (ix2 R j) = (g : EReal))

include hk hg

theorem newM_apply (hmc : mc (ix2 R j) = (code : EReal)) (hms : ms (ix2 R (Meant.group j)) = (scale : EReal)) :
    k0_pay9 (k0_pay5 G k) (k0_pay7 mc ms) k0_pay8 (ix2 R j) = ((Element.newM g clip code scale : ℝ) : EReal) := by
  pointwise [k0_pay9, k0_pay5, k0_pay7, k0_pay8]
  rw [hk, hg, hmc, show ms (ix2 R ⟨j.val / 128, _⟩) = _ from hms, named_beta1, named_one_minus_beta1]
  simp only [← EReal.coe_mul, ← EReal.coe_add, Element.newM]

theorem newV_apply (hvc : vc (ix2 R j) = (code : EReal)) (hvs : vs (ix2 R (Meant.group j)) = (scale : EReal)) :
    k0_pay10 (k0_pay5 G k) (k0_pay6 vc vs) (ix2 R j) = ((Element.newV g clip code scale : ℝ) : EReal) := by
  pointwise [k0_pay10, k0_pay5, k0_pay6]
  rw [hk, hg, hvc, show vs (ix2 R ⟨j.val / 128, _⟩) = _ from hvs, Consts.ofBits_beta2, named_one_minus_beta2]
  simp only [← EReal.coe_mul, ← EReal.coe_add, Element.newV]

omit hk hg in
theorem update_apply {x : Vec Ideal S1x1 .f32} {p : Vec Ideal S37376x2048 .f32} {u w : FVec Ideal S37376x2048 .f32}
    {a b : FVec Ideal S37376x2048 .f32} {t m v θ : ℝ} (hx : x (ix2 0 0) = (t : EReal)) (ht : 1 ≤ t)
    (hm : k0_pay9 u w a (ix2 R j) = (m : EReal)) (hv : k0_pay10 u b (ix2 R j) = (v : EReal)) (hv0 : 0 ≤ v)
    (hp : p (ix2 R j) = (θ : EReal)) :
    k0_pay11 (k0_pay3 x) (k0_pay4 x) u b w a p (ix2 R j) = ((Element.update m v θ t : ℝ) : EReal) := by
  have hb2 := Element.bias2_pos ht
  have hd : (0 : ℝ) < √(v * (1 / Element.bias2 t)) + 1 / 100000000 := add_pos_of_nonneg_of_pos (Real.sqrt_nonneg _) (by norm_num)
  pointwise [k0_pay11]
  rw [hm, hv, hp, bias1_apply hx, bias2_apply hx, Ideal.div_coe (Element.bias1_pos ht).ne', Ideal.div_coe hb2.ne', named_eps,
    named_weight_decay, named_neg_lr, ← EReal.coe_mul, ← EReal.coe_mul, show Ideal.sqrt ((v * (1 / Element.bias2 t) : ℝ) : EReal) = _ from if_neg (not_lt.2 (by positivity)), ← EReal.coe_add,
    Ideal.div_coe hd.ne', ← EReal.coe_mul, ← EReal.coe_mul, ← EReal.coe_add, ← EReal.coe_mul]
  congr 1
  simp only [Element.update, div_eq_mul_inv, one_mul]

end Entry

section Value

theorem idx8 : ∀ t : Fin cfg0.N, win0_8.index t = ![0, 0] := (by decide +kernel : ∀ t : Fin grid0.N, win0_8.index t = ![0, 0])

variable (m : (ℓ : Loc nD τ sig) → Buf (Elt Ideal) ℓ) (c : Dev nD)

/-- The precondition of a device's arguments. -/
abbrev Good : Prop :=
  State.Good (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The new moments and the parameter update of a device's arguments. -/
def newM : Fin 37376 → Fin 2048 → ℝ :=
  Meant.newM (m ((c : Thread nD τ).loc main_arg1)) (m ((c : Thread nD τ).loc main_arg2)) (m ((c : Thread nD τ).loc main_arg3))
    (m ((c : Thread nD τ).loc main_arg7))
def newV : Fin 37376 → Fin 2048 → ℝ :=
  Meant.newV (m ((c : Thread nD τ).loc main_arg1)) (m ((c : Thread nD τ).loc main_arg4)) (m ((c : Thread nD τ).loc main_arg5))
    (m ((c : Thread nD τ).loc main_arg7))
def update : Fin 37376 → Fin 2048 → ℝ :=
  Meant.update (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

variable {F : FTy → Type} [FloatOps F] in
theorem ld_whole {e : EltTy} (x : Vec F S37376x2048 e) : View.ld x r0_1 = x := by
  funext y
  obtain ⟨a, b, rfl⟩ : ∃ a b, y = ix2 a b := ⟨_, _, eq_ix2 (n0 := 37376) (n1 := 2048) y⟩
  pointwise

variable {F : FTy → Type} [FloatOps F] in
theorem ld_groups {e : EltTy} (x : Vec F S37376x16 e) : View.ld x r0_2 = x := by
  funext y
  obtain ⟨a, b, rfl⟩ : ∃ a b, y = ix2 a b := ⟨_, _, eq_ix2 (n0 := 37376) (n1 := 16) y⟩
  pointwise

variable {F : FTy → Type} [FloatOps F] in
theorem ld_one {e : EltTy} (x : Vec F S1x1 e) : View.ld x r0_0 = x := by
  funext y
  obtain ⟨a, b, rfl⟩ : ∃ a b, y = ix2 a b := ⟨_, _, eq_ix2 (n0 := 1) (n1 := 1) y⟩
  obtain rfl : a = 0 := Subsingleton.elim _ _
  obtain rfl : b = 0 := Subsingleton.elim _ _
  pointwise

variable {m c} (h : Good m c) (t : Fin cfg0.N) (R : Fin 37376) (j : Fin 2048)

theorem clip_coe : (iblk m c 0 t : Vec Ideal S1x1 .f32) (ix2 0 0)
    = ((Meant.clip (m ((c : Thread nD τ).loc main_arg7)) : ℝ) : EReal) :=
  (clip_apply m c t).trans (Meant.clip_eq _)

include h

theorem newM_block : k0_pay9 (k0_pay5 (iblk m c 3 t) (iblk m c 0 t)) (k0_pay7 (iblk m c 4 t) (iblk m c 5 t)) k0_pay8 (ix2 R j)
    = ((newM m c R j : ℝ) : EReal) :=
  newM_apply (clip_coe t) ((iblk3_apply m c t R j).trans (Meant.grad_eq h _))
    ((iblk4_apply m c t R j).trans (Meant.mcode_eq h _)) ((iblk5_apply m c t R _).trans (Meant.mscale_eq h _))

theorem newV_block : k0_pay10 (k0_pay5 (iblk m c 3 t) (iblk m c 0 t)) (k0_pay6 (iblk m c 6 t) (iblk m c 7 t)) (ix2 R j)
    = ((newV m c R j : ℝ) : EReal) :=
  newV_apply (clip_coe t) ((iblk3_apply m c t R j).trans (Meant.grad_eq h _))
    ((iblk6_apply m c t R j).trans (Meant.vcode_eq h _)) ((iblk7_apply m c t R _).trans (Meant.vscale_eq h _))

theorem newV_nonneg : 0 ≤ newV m c R j := by
  rcases Meant.newV_guard h R j with e | e
  · exact e.ge
  · exact Element.rootGuard_pos.le.trans e

/-- The reference's block of the parameter update. -/
theorem dp_block : out0_8 (iblk m c 0 t) (iblk m c 1 t) (iblk m c 2 t) (iblk m c 3 t) (iblk m c 4 t) (iblk m c 5 t) (iblk m c 6 t)
    (iblk m c 7 t) (ix2 R j) = ((update m c R j : ℝ) : EReal) := by
  unfold out0_8 k0_pay23 k0_pay22 k0_pay21 k0_pay20
  rw [View.canon_cons_unit_lit _ _ _ (by decide)]
  simp only [ld_whole, ld_groups, ld_one]
  exact update_apply (step_apply m c t) (Meant.one_le_step h) (newM_block h t R j) (newV_block h t R j) (newV_nonneg h R j)
    ((iblk2_apply m c t R j).trans (Meant.param_eq h _))

/-- The reference's array of the parameter update. -/
theorem dp_array (i : S37376x2048.Idx) : (dats m 0 c).arrAt 8 cfg0.N i = ((update m c (i 0) (i 1) : ℝ) : EReal) := by
  refine congrFun ((?_ : (dats m 0 c).arrAt 8 cfg0.N = fun i : S37376x2048.Idx => ((update m c (i 0) (i 1) : ℝ) : EReal))) i
  refine (dats m 0 c).arrAt_eq_of_covers 8 _ (by decide +kernel) fun t hf y => ?_
  blk_simp
  rw [after0_8]
  obtain ⟨R, j, rfl⟩ : ∃ R j, y = ix2 R j := ⟨_, _, eq_ix2 (n0 := 37376) (n1 := 2048) y⟩
  refine (dp_block h t R j).trans ?_
  congr 3
  · exact Fin.ext (by show R.val = win0_8.index t 0 * 37376 + 1 * R.val; rw [idx8]; show R.val = 0 * 37376 + 1 * R.val; omega)
  · exact Fin.ext (by show j.val = win0_8.index t 1 * 2048 + 1 * j.val; rw [idx8]; show j.val = 0 * 2048 + 1 * j.val; omega)

end Value

end Cert.ReferenceIdeal.Whole

end
-- ==== Proof.RefQuant.lean ====
module

public import proofs.«01_k».proof.Proof.RefBlocks
public import proofs.«01_k».proof.Proof.QuantConsts
public import proofs.«01_k».proof.Proof.Top
public import proofs.«01_k».proof.Proof.Bound

/-! The reference's quantiser, entry by entry: the exponent of a group is the one of its greatest magnitude over the
format's greatest number. -/

@[expose] public section

set_option maxRecDepth 16384

noncomputable section

namespace Cert.ReferenceIdeal.Whole

open Cert.ReferenceIdeal Cert.ReferenceIdeal.Gen Idealize.ShloMosaic Idealize.ShloMosaic.TcCoe Idealize.SL.Sem

theorem named_inv_m : (Named.named κ "inv_e4m3_max" 0x3B124925#32 : Ideal .f32) = ((1 / 448 : ℝ) : EReal) := rfl
theorem named_inv_v : (Named.named κ "inv_e5m2_max" 0x37924925#32 : Ideal .f32) = ((1 / 57344 : ℝ) : EReal) := rfl

/-- The greatest magnitudes of the groups of a row. -/
def tops (x : FVec Ideal S37376x2048 .f32) : FVec Ideal S37376x16 .f32 :=
  multiReduction .maximumf [2] S37376x16 (absf (shapeCast S37376x16x128 x shapeCasts_S37376x2048_S37376x16x128)) 0xFF800000#32
    reduces_S37376x16x128_S37376x16 (.inl rfl) rfl

theorem tops_apply {x : FVec Ideal S37376x2048 .f32} {R : Fin 37376} {q : Fin 16} {f : Fin 128 → ℝ}
    (h : ∀ b, x (ix2 R (Meant.colOf q b)) = (f b : EReal)) : tops x (ix2 R q) = ((Scale.top f : ℝ) : EReal) := by
  pointwise [tops]
  have e := Scale.fold_top (f := f) (k := 1) zero_le_one Consts.ofBits_bot (g := fun b => FloatOps.absf (x (ix2 R (Meant.colOf q b))))
    fun b => by rw [h, one_mul]; exact State.abs_coe _
  rw [one_mul] at e
  refine Eq.trans ?_ e
  congr 1
  funext b
  congr 3
  exact Fin.ext (by show q.val * 128 + b.val = 128 * q.val + b.val; omega)

/-- The exponents of the groups, of their greatest magnitudes over the format's greatest number. -/
def exps (y : FVec Ideal S37376x16 .f32) : FVec Ideal S37376x16 .f32 :=
  select (cmpf .olt y (broadcast S37376x16 (Scalar.ofBits .f32 0x00800000#32))) (broadcast S37376x16 (Scalar.ofBits .f32 0x00000000#32))
    (addf (floor (mulf (log y) (broadcast S37376x16 (Named.named κ "inv_log2" 0x3FB8AA3B#32))))
      (broadcast S37376x16 (Scalar.ofBits .f32 0x3F800000#32)))

theorem exps_apply {y : FVec Ideal S37376x16 .f32} {i : S37376x16.Idx} {r : ℝ} (h : y i = (r : EReal)) :
    exps y i = (((Scale.expo r : ℤ) : ℝ) : EReal) := by
  show Scalar.select (BitVec.ofBool (decide (y i < Ideal.ofBits .f32 0x00800000#32))) (Ideal.ofBits .f32 0x00000000#32)
    (Ideal.liftRound Int.floor (Ideal.log (y i) * (((Real.log 2)⁻¹ : ℝ) : EReal)) + Ideal.ofBits .f32 0x3F800000#32) = _
  rw [h, Consts.ofBits_tiny, State.ofBits_zero, State.ofBits_one, Scale.expo]
  by_cases hr : r < 2 ^ (-126 : ℤ)
  · rw [if_pos hr, decide_eq_true (EReal.coe_lt_coe_iff.2 hr)]
    simp [Scalar.select]
  · have h0 : ¬ r ≤ 0 := not_le.2 (lt_of_lt_of_le (by positivity) (not_lt.1 hr))
    rw [if_neg hr, decide_eq_false (fun e => hr (EReal.coe_lt_coe_iff.1 e)), Ideal.log_coe, if_neg h0, ← EReal.coe_mul,
      Ideal.liftRound_coe, ← div_eq_mul_inv]
    push_cast
    rfl

theorem exps_mul {t : FVec Ideal S37376x16 .f32} {c : Ideal .f32} {i : S37376x16.Idx} {a k : ℝ} (ht : t i = (a : EReal))
    (hc : c = (k : EReal)) : exps (mulf t (broadcast S37376x16 c)) i = (((Scale.expo (a * k) : ℤ) : ℝ) : EReal) :=
  exps_apply (by show (t i : EReal) * c = _; rw [ht, hc, EReal.coe_mul])

theorem expsM_eq (u v w : FVec Ideal S37376x2048 .f32) : k0_pay12 u v w
    = exps (mulf (tops (k0_pay9 u v w)) (broadcast S37376x16 (Named.named κ "inv_e4m3_max" 0x3B124925#32))) := rfl

theorem expsV_eq (x : FVec Ideal S37376x2048 .f32) : k0_pay16 x
    = exps (mulf (tops x) (broadcast S37376x16 (Named.named κ "inv_e5m2_max" 0x37924925#32))) := rfl

theorem exp2_int (k : ℤ) : Ideal.exp2 (((k : ℤ) : ℝ) : EReal) = ((2 ^ k : ℝ) : EReal) := by
  rw [Ideal.exp2_coe]; exact congrArg Real.toEReal (Real.rpow_intCast 2 k)

section Entry

variable {u v w x : FVec Ideal S37376x2048 .f32} {R : Fin 37376} {f : Fin 37376 → Fin 2048 → ℝ}

theorem exponM_apply (h : ∀ j, k0_pay9 u v w (ix2 R j) = (f R j : EReal)) (q : Fin 16) :
    k0_pay12 u v w (ix2 R q) = (((Scale.expo (Meant.top f R q * (1 / 448)) : ℤ) : ℝ) : EReal) := by
  rw [expsM_eq]
  exact exps_mul (tops_apply (f := fun b => f R (Meant.colOf q b)) fun b => h (Meant.colOf q b)) named_inv_m

theorem exponV_apply (h : ∀ j, x (ix2 R j) = (f R j : EReal)) (q : Fin 16) :
    k0_pay16 x (ix2 R q) = (((Scale.expo (Meant.top f R q * (1 / 57344)) : ℤ) : ℝ) : EReal) := by
  rw [expsV_eq]
  exact exps_mul (tops_apply (f := fun b => f R (Meant.colOf q b)) fun b => h (Meant.colOf q b)) named_inv_v

theorem exp2_apply {e : FVec Ideal S37376x16 .f32} {i : S37376x16.Idx} {k : ℤ} (h : e i = ((k : ℝ) : EReal)) :
    exp2 e i = ((2 ^ k : ℝ) : EReal) := by
  show Ideal.exp2 (e i) = _
  rw [h, exp2_int]

theorem powersM_eq : k0_pay13 u v w = exp2 (k0_pay12 u v w) := rfl
theorem powersV_eq : k0_pay17 x = exp2 (k0_pay16 x) := rfl

theorem transposeM_apply (e : FVec Ideal S37376x16 .f32) (q : Fin 16) : k0_pay19 e (ix2 q R) = e (ix2 R q) := by
  pointwise [k0_pay19]

theorem transposeV_apply (e : FVec Ideal S37376x16 .f32) (q : Fin 16) : k0_pay1 e (ix2 q R) = e (ix2 R q) := by
  pointwise [k0_pay1]

theorem scaleM_apply (h : ∀ j, k0_pay9 u v w (ix2 R j) = (f R j : EReal)) (q : Fin 16) :
    k0_pay19 (k0_pay13 u v w) (ix2 q R) = ((Scale.scale (Meant.top f R q * (1 / 448)) : ℝ) : EReal) := by
  rw [transposeM_apply, powersM_eq]
  exact exp2_apply (exponM_apply h q)

theorem scaleV_apply (h : ∀ j, x (ix2 R j) = (f R j : EReal)) (q : Fin 16) :
    k0_pay1 (k0_pay17 x) (ix2 q R) = ((Scale.scale (Meant.top f R q * (1 / 57344)) : ℝ) : EReal) := by
  rw [transposeV_apply, powersV_eq]
  exact exp2_apply (exponV_apply h q)

/-- The inverse scales of the exponents `e`. -/
def inverses (e : FVec Ideal S37376x16 .f32) : FVec Ideal S37376x16x1 .f32 :=
  shapeCast S37376x16x1 (exp2 (subf (broadcast S37376x16 (Scalar.ofBits .f32 0x00000000#32)) e)) shapeCasts_S37376x16_S37376x16x1

theorem inverses_apply {e : FVec Ideal S37376x16 .f32} {q : Fin 16} {k : ℤ} (h : e (ix2 R q) = ((k : ℝ) : EReal)) :
    inverses e (ix3 R q 0) = ((2 ^ (-k) : ℝ) : EReal) := by
  pointwise [inverses]
  rw [h, zero_sub, ← EReal.coe_neg, ← Int.cast_neg]
  exact exp2_int _

/-- The codes of `x` by the inverse scales of the exponents `e`. -/
def codesV (x : FVec Ideal S37376x2048 .f32) (k : FVec Ideal S37376x16x1 .f32) : FVec Ideal S37376x2048 .fp8e5m2 :=
  truncf .fp8e5m2 (minimumf (broadcast S37376x2048 (Scalar.ofBits .f32 0x47600000#32)) (maximumf
    (broadcast S37376x2048 (Scalar.ofBits .f32 0x00000000#32)) (mulf x (shapeCast S37376x2048 (broadcastTo S37376x16x128
      (shapeCast S37376x16x1 k shapeCasts_S37376x16x1_S37376x16x1) broadcasts_S37376x16x1_S37376x16x128)
      shapeCasts_S37376x16x128_S37376x2048)))) bitsLt_fp8e5m2_f32

theorem inversesM_eq : k0_pay14 u v w = inverses (k0_pay12 u v w) := rfl
theorem codesV_eq : k0_pay18 x = codesV x (inverses (k0_pay16 x)) := rfl

variable {k : FVec Ideal S37376x16x1 .f32} {j : Fin 2048} {n i : ℝ}

theorem quantM_apply (hx : x (ix2 R j) = (n : EReal)) (hk : k (ix3 R (Meant.group j) 0) = (i : EReal)) :
    k0_pay15 x k (ix2 R j) = ((Meant.quant (-448) 448 n i : ℝ) : EReal) := by
  pointwise [k0_pay15]
  rw [hx, show k (ix3 R ⟨j.val / 128, _⟩ 0) = _ from hk, Consts.ofBits_448, Consts.ofBits_neg448]
  exact Meant.quant_coe _ _ _ _

theorem quantV_apply (hx : x (ix2 R j) = (n : EReal)) (hk : k (ix3 R (Meant.group j) 0) = (i : EReal)) :
    codesV x k (ix2 R j) = ((Meant.quant 0 57344 n i : ℝ) : EReal) := by
  pointwise [codesV]
  rw [hx, show k (ix3 R ⟨j.val / 128, _⟩ 0) = _ from hk, Consts.ofBits_57344, ← EReal.coe_zero]
  exact Meant.quant_coe _ _ _ _

theorem codeM_apply (h : ∀ j, k0_pay9 u v w (ix2 R j) = (f R j : EReal)) (j : Fin 2048) :
    k0_pay15 (k0_pay9 u v w) (k0_pay14 u v w) (ix2 R j)
      = ((Meant.quant (-448) 448 (f R j) (Scale.inv (Meant.top f R (Meant.group j) * (1 / 448))) : ℝ) : EReal) :=
  quantM_apply (h j) (by rw [inversesM_eq]; exact inverses_apply (exponM_apply h (Meant.group j)))

theorem codeV_apply (h : ∀ j, x (ix2 R j) = (f R j : EReal)) (j : Fin 2048) :
    k0_pay18 x (ix2 R j)
      = ((Meant.quant 0 57344 (f R j) (Scale.inv (Meant.top f R (Meant.group j) * (1 / 57344))) : ℝ) : EReal) := by
  rw [codesV_eq]
  exact quantV_apply (h j) (inverses_apply (exponV_apply h (Meant.group j)))

end Entry

end Cert.ReferenceIdeal.Whole

end
-- ==== Proof.RefArray.lean ====
module

public import proofs.«01_k».proof.Proof.RefValue
public import proofs.«01_k».proof.Proof.RefQuant

/-! The reference's arrays of the codes and the scales, entry by entry, as the real numbers they mean. -/

@[expose] public section

set_option maxRecDepth 16384

noncomputable section

namespace Cert.ReferenceIdeal.Whole

open Cert.ReferenceIdeal Cert.ReferenceIdeal.Gen Idealize.ShloMosaic Idealize.ShloMosaic.TcCoe Idealize.SL.Sem

theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx12 : ∀ t : Fin cfg0.N, win0_12.index t = ![0, 0] := (by decide +kernel : ∀ t : Fin grid0.N, win0_12.index t = ![0, 0])

/-- The greatest magnitudes of the new moments of a device's arguments over the formats' greatest numbers. -/
def magM (m : (ℓ : Loc nD τ sig) → Buf (Elt Ideal) ℓ) (c : Dev nD) (R : Fin 37376) (q : Fin 16) : ℝ :=
  Meant.top (newM m c) R q * (1 / 448)
def magV (m : (ℓ : Loc nD τ sig) → Buf (Elt Ideal) ℓ) (c : Dev nD) (R : Fin 37376) (q : Fin 16) : ℝ :=
  Meant.top (newV m c) R q * (1 / 57344)

/-- The codes the new moments of a device's arguments have by the reference. -/
def quantM (m : (ℓ : Loc nD τ sig) → Buf (Elt Ideal) ℓ) (c : Dev nD) (R : Fin 37376) (j : Fin 2048) : ℝ :=
  Meant.quant (-448) 448 (newM m c R j) (Scale.inv (magM m c R (Meant.group j)))
def quantV (m : (ℓ : Loc nD τ sig) → Buf (Elt Ideal) ℓ) (c : Dev nD) (R : Fin 37376) (j : Fin 2048) : ℝ :=
  Meant.quant 0 57344 (newV m c R j) (Scale.inv (magV m c R (Meant.group j)))

variable {m : (ℓ : Loc nD τ sig) → Buf (Elt Ideal) ℓ} {c : Dev nD} (h : Good m c) (t : Fin cfg0.N) (R : Fin 37376)

include h

/-- The reference's blocks of the codes and the scales. -/
theorem codeM_block (j : Fin 2048) : out0_9 (iblk m c 0 t) (iblk m c 1 t) (iblk m c 2 t) (iblk m c 3 t) (iblk m c 4 t) (iblk m c 5 t)
    (iblk m c 6 t) (iblk m c 7 t) (ix2 R j) = ((quantM m c R j : ℝ) : EReal) := by
  unfold out0_9 k0_pay23 k0_pay22 k0_pay20
  rw [View.canon_cons_unit_lit _ _ _ (by decide)]
  simp only [ld_whole, ld_groups, ld_one]
  exact codeM_apply (f := newM m c) (fun j => newM_block h t R j) j

theorem scaleM_block (q : Fin 16) : out0_10 (iblk m c 0 t) (iblk m c 1 t) (iblk m c 2 t) (iblk m c 3 t) (iblk m c 4 t) (iblk m c 5 t)
    (iblk m c 6 t) (iblk m c 7 t) (ix2 q R) = ((Scale.scale (magM m c R q) : ℝ) : EReal) := by
  unfold out0_10 k0_pay23 k0_pay22 k0_pay20
  rw [View.canon_cons_unit_lit _ _ _ (by decide)]
  simp only [ld_whole, ld_groups, ld_one]
  exact scaleM_apply (f := newM m c) (fun j => newM_block h t R j) q

theorem codeV_block (j : Fin 2048) : out0_11 (iblk m c 0 t) (iblk m c 1 t) (iblk m c 2 t) (iblk m c 3 t) (iblk m c 4 t) (iblk m c 5 t)
    (iblk m c 6 t) (iblk m c 7 t) (ix2 R j) = ((quantV m c R j : ℝ) : EReal) := by
  unfold out0_11 k0_pay24 k0_pay21 k0_pay20
  rw [View.canon_cons_unit_lit _ _ _ (by decide)]
  simp only [ld_whole, ld_groups, ld_one]
  exact codeV_apply (f := newV m c) (fun j => newV_block h t R j) j

theorem scaleV_block (q : Fin 16) : out0_12 (iblk m c 0 t) (iblk m c 1 t) (iblk m c 2 t) (iblk m c 3 t) (iblk m c 4 t) (iblk m c 5 t)
    (iblk m c 6 t) (iblk m c 7 t) (ix2 q R) = ((Scale.scale (magV m c R q) : ℝ) : EReal) := by
  unfold out0_12 k0_pay24 k0_pay21 k0_pay20
  rw [View.canon_cons_unit_lit _ _ _ (by decide)]
  simp only [ld_whole, ld_groups, ld_one]
  exact scaleV_apply (f := newV m c) (fun j => newV_block h t R j) q

/-- The reference's arrays of the codes and the scales. -/
theorem codeM_array (i : S37376x2048.Idx) : (dats m 0 c).arrAt 9 cfg0.N i = ((quantM m c (i 0) (i 1) : ℝ) : EReal) := by
  refine congrFun ((?_ : (dats m 0 c).arrAt 9 cfg0.N = fun i : S37376x2048.Idx => ((quantM m c (i 0) (i 1) : ℝ) : EReal))) i
  refine (dats m 0 c).arrAt_eq_of_covers 9 _ (by decide +kernel) fun t hf y => ?_
  blk_simp
  rw [after0_9]
  obtain ⟨R, j, rfl⟩ : ∃ R j, y = ix2 R j := ⟨_, _, eq_ix2 (n0 := 37376) (n1 := 2048) y⟩
  refine (codeM_block h t R j).trans ?_
  refine congrArg Real.toEReal (congrArg₂ (quantM m c) ?_ ?_)
  · exact Fin.ext (by show R.val = win0_9.index t 0 * 37376 + 1 * R.val; rw [idx9]; show R.val = 0 * 37376 + 1 * R.val; omega)
  · exact Fin.ext (by show j.val = win0_9.index t 1 * 2048 + 1 * j.val; rw [idx9]; show j.val = 0 * 2048 + 1 * j.val; omega)

theorem scaleM_array (i : S16x37376.Idx) : (dats m 0 c).arrAt 10 cfg0.N i = ((Scale.scale (magM m c (i 1) (i 0)) : ℝ) : EReal) := by
  refine congrFun ((?_ : (dats m 0 c).arrAt 10 cfg0.N
    = fun i : S16x37376.Idx => ((Scale.scale (magM m c (i 1) (i 0)) : ℝ) : EReal))) i
  refine (dats m 0 c).arrAt_eq_of_covers 10 _ (by decide +kernel) fun t hf y => ?_
  blk_simp
  rw [after0_10]
  obtain ⟨q, R, rfl⟩ : ∃ q R, y = ix2 q R := ⟨_, _, eq_ix2 (n0 := 16) (n1 := 37376) y⟩
  refine (scaleM_block h t R q).trans ?_
  refine congrArg (fun z : ℝ => (Scale.scale z : EReal)) (congrArg₂ (magM m c) ?_ ?_)
  · exact Fin.ext (by show R.val = win0_10.index t 1 * 37376 + 1 * R.val; rw [idx10]; show R.val = 0 * 37376 + 1 * R.val; omega)
  · exact Fin.ext (by show q.val = win0_10.index t 0 * 16 + 1 * q.val; rw [idx10]; show q.val = 0 * 16 + 1 * q.val; omega)

theorem codeV_array (i : S37376x2048.Idx) : (dats m 0 c).arrAt 11 cfg0.N i = ((quantV m c (i 0) (i 1) : ℝ) : EReal) := by
  refine congrFun ((?_ : (dats m 0 c).arrAt 11 cfg0.N = fun i : S37376x2048.Idx => ((quantV m c (i 0) (i 1) : ℝ) : EReal))) i
  refine (dats m 0 c).arrAt_eq_of_covers 11 _ (by decide +kernel) fun t hf y => ?_
  blk_simp
  rw [after0_11]
  obtain ⟨R, j, rfl⟩ : ∃ R j, y = ix2 R j := ⟨_, _, eq_ix2 (n0 := 37376) (n1 := 2048) y⟩
  refine (codeV_block h t R j).trans ?_
  refine congrArg Real.toEReal (congrArg₂ (quantV m c) ?_ ?_)
  · exact Fin.ext (by show R.val = win0_11.index t 0 * 37376 + 1 * R.val; rw [idx11]; show R.val = 0 * 37376 + 1 * R.val; omega)
  · exact Fin.ext (by show j.val = win0_11.index t 1 * 2048 + 1 * j.val; rw [idx11]; show j.val = 0 * 2048 + 1 * j.val; omega)

theorem scaleV_array (i : S16x37376.Idx) : (dats m 0 c).arrAt 12 cfg0.N i = ((Scale.scale (magV m c (i 1) (i 0)) : ℝ) : EReal) := by
  refine congrFun ((?_ : (dats m 0 c).arrAt 12 cfg0.N
    = fun i : S16x37376.Idx => ((Scale.scale (magV m c (i 1) (i 0)) : ℝ) : EReal))) i
  refine (dats m 0 c).arrAt_eq_of_covers 12 _ (by decide +kernel) fun t hf y => ?_
  blk_simp
  rw [after0_12]
  obtain ⟨q, R, rfl⟩ : ∃ q R, y = ix2 q R := ⟨_, _, eq_ix2 (n0 := 16) (n1 := 37376) y⟩
  refine (scaleV_block h t R q).trans ?_
  refine congrArg (fun z : ℝ => (Scale.scale z : EReal)) (congrArg₂ (magV m c) ?_ ?_)
  · exact Fin.ext (by show R.val = win0_12.index t 1 * 37376 + 1 * R.val; rw [idx12]; show R.val = 0 * 37376 + 1 * R.val; omega)
  · exact Fin.ext (by show q.val = win0_12.index t 0 * 16 + 1 * q.val; rw [idx12]; show q.val = 0 * 16 + 1 * q.val; omega)

end Cert.ReferenceIdeal.Whole

end
-- ==== Proof.Settled.lean ====
module

public import proofs.«01_k».proof.On_claimed
public import proofs.«01_k».proof.Proof.Bound
public import proofs.«01_k».proof.Proof.Exponent
public import Idealize.ShloMosaic.Lib.Pointwise
public import Idealize.ShloMosaic.Lib.WordCmp

/-! What the claimed mask says: where it is set, the two ways of multiplying a group's greatest magnitude give the same
exponent. -/

@[expose] public section

set_option maxRecDepth 16384

noncomputable section

namespace Cert.On_claimed

open Idealize.ShloMosaic Facts

variable [Facts]

/-- One number at every entry. -/
def every (b : BitVec 32) : FVec Ideal S37376x2048 .f32 := broadcastInDim S37376x2048 ![] bcast_S_S37376x2048 (constant S_ .f32 b)
def everyGroup (b : BitVec 32) : FVec Ideal S37376x16 .f32 := broadcastInDim S37376x16 ![] bcast_S_S37376x16 (constant S_ .f32 b)
def everyWord {w : ℕ} (b : BitVec w) : IVec S37376x2048 w := broadcastInDim S37376x2048 ![] bcast_S_S37376x2048 (constantI S_ w b)

/-- The groups' numbers at every entry of the group. -/
def spread {α : Type} (x : S37376x16.Idx → α) : S37376x2048.Idx → α :=
  shapeCast S37376x2048 (broadcastInDim S37376x16x128 ![0, 1, 2] bcast_S37376x16x1_S37376x16x128_0_1_2
    (broadcastInDim S37376x16x1 ![0, 1] bcast_S37376x16_S37376x16x1_0_1 x)) shapeCasts_S37376x16x128_S37376x2048

def flip (x : IVec S37376x16 1) : IVec S16x37376 1 := (transpose S16x37376 [1, 0] · transposes_S37376x16_S16x37376_1_0) x

/-- The numbers the codes stand for. -/
def magnitude (s k : BitVec 32) (x : IVec S37376x2048 8) : FVec Ideal S37376x2048 .f32 :=
  mulf (bitcastToFloat .f32 (Host.shli (andi (extsi 32 x natLt_8_32) (everyWord 127#32)) (everyWord s))) (every k)

def decode (s k : BitVec 32) (x : IVec S37376x2048 8) : FVec Ideal S37376x2048 .f32 :=
  fn_where (F := Ideal) (cmpi .slt x (everyWord 0#8)) (Host.negf (magnitude s k x)) (magnitude s k x)

/-- The clipped gradient. -/
def clipped (G : FVec Ideal S37376x2048 .bf16) (gsum : FVec Ideal S8x128 .f32) : FVec Ideal S37376x2048 .f32 :=
  mulf (extf .f32 G bitsLt_bf16_f32) (broadcastInDim S37376x2048 ![] bcast_S_S37376x2048
    (minimumf (constant S_ .f32 0x3F800000#32) (Host.divf (constant S_ .f32 0x3F800000#32) (addf (Host.sqrt (shapeCast S_
      (extractStridedSlice S1x1 ![0, 0] gsum slices_S8x128_S1x1_0_0) shapeCasts_S1x1_S_)) (constant S_ .f32 0x358637BD#32)))))

def momentM (m : FVec Ideal S37376x2048 .f32) (g : FVec Ideal S37376x2048 .f32) : FVec Ideal S37376x2048 .f32 :=
  Host.divf (addf (mulf (every 0x41100000#32) m) g) (every 0x41200000#32)

def momentV (v : FVec Ideal S37376x2048 .f32) (g : FVec Ideal S37376x2048 .f32) : FVec Ideal S37376x2048 .f32 :=
  addf (mulf (every 0x3F7FBE77#32) v) (Host.divf (mulf g g) (every 0x447A0000#32))

/-- The greatest magnitudes of the groups. -/
def tops (x : FVec Ideal S37376x2048 .f32) : FVec Ideal S37376x16 .f32 :=
  Host.reduce FloatOps.maximumf (Host.absf (shapeCast S37376x16x128 x shapeCasts_S37376x2048_S37376x16x128))
    (constant S_ .f32 0xFF800000#32) reducesTo_S37376x16x128_S37376x16_d2 h_S_

/-- Where the exponents agree. -/
def settled (t : FVec Ideal S37376x16 .f32) (mul hi tiny : BitVec 32) : IVec S37376x16 1 :=
  ori (cmpf .olt t (everyGroup tiny))
    (cmpf .oeq (Host.floor (Host.divf (Host.log (mulf t (everyGroup mul))) (Host.log (everyGroup 0x40000000#32))))
      (Host.floor (Host.divf (Host.log (Host.divf t (everyGroup hi))) (Host.log (everyGroup 0x40000000#32)))))

def settledM (G : FVec Ideal S37376x2048 .bf16) (mc : IVec S37376x2048 8) (ms : FVec Ideal S37376x16 .f32)
    (gsum : FVec Ideal S8x128 .f32) : IVec S37376x16 1 :=
  settled (tops (momentM (mulf (decode 20#32 0x7B800000#32 mc) (spread ms)) (clipped G gsum))) 0x3B120001#32 0x43E00000#32 0x04E00000#32

def settledV (G : FVec Ideal S37376x2048 .bf16) (vc : IVec S37376x2048 8) (vs : FVec Ideal S37376x16 .f32)
    (gsum : FVec Ideal S8x128 .f32) : IVec S37376x16 1 :=
  settled (tops (momentV (mulf (decode 21#32 0x77800000#32 vc) (spread vs)) (clipped G gsum))) 0x37920001#32 0x47600000#32 0x08600000#32

theorem fn_eq (P : FVec Ideal S37376x2048 .f32) (G : FVec Ideal S37376x2048 .bf16) (mc : IVec S37376x2048 8)
    (ms : FVec Ideal S37376x16 .f32) (vc : IVec S37376x2048 8) (vs : FVec Ideal S37376x16 .f32) (step : IVec S_ 32)
    (gsum : FVec Ideal S8x128 .f32) : fn P G mc ms vc vs step gsum
      = (everyWord 1#1, spread (settledM G mc ms gsum), flip (settledM G mc ms gsum), spread (settledV G vc vs gsum),
        flip (settledV G vc vs gsum)) := by
  rfl

theorem spread_apply {α : Type} (x : S37376x16.Idx → α) (R : Fin 37376) (j : Fin 2048) : spread x (ix2 R j) = x (ix2 R (Meant.group j)) := by
  pointwise [spread]
  rfl

theorem flip_apply (x : IVec S37376x16 1) (R : Fin 37376) (q : Fin 16) : flip x (ix2 q R) = x (ix2 R q) := by
  pointwise [flip]

theorem settled_expo {t : FVec Ideal S37376x16 .f32} {mul hi tiny : BitVec 32} {i : S37376x16.Idx} {a k b : ℝ} (ht : t i = (a : EReal))
    (ha : 0 ≤ a) (hk : Ideal.ofBits .f32 mul = (k : EReal)) (hb : Ideal.ofBits .f32 hi = (b : EReal))
    (hs : Ideal.ofBits .f32 tiny = ((b * 2 ^ (-126 : ℤ) : ℝ) : EReal)) (k0 : 0 < k) (b0 : 0 < b) (hkb : k ≤ 1 / b)
    (h : settled t mul hi tiny i = 1#1) : Scale.expo (a * (1 / b)) = Scale.expo (k * a) := by
  have h' : IntOp.ori (BitVec.ofBool (decide (t i < Ideal.ofBits .f32 tiny)))
      (BitVec.ofBool (decide (Ideal.liftRound Int.floor (Ideal.div (Ideal.log (t i * Ideal.ofBits .f32 mul)) (Ideal.log (Ideal.ofBits .f32 0x40000000#32)))
        = Ideal.liftRound Int.floor (Ideal.div (Ideal.log (Ideal.div (t i) (Ideal.ofBits .f32 hi))) (Ideal.log (Ideal.ofBits .f32 0x40000000#32)))))) = 1#1 := h
  rw [ht, hk, hb, hs, Consts.ofBits_two] at h'
  have hle : k * a ≤ a * (1 / b) := by rw [mul_comm a]; exact mul_le_mul_of_nonneg_right hkb ha
  refine (Scale.expo_eq (mul_nonneg k0.le ha) hle ?_).symm
  rcases ha.eq_or_lt with rfl | ha'
  · left; rw [zero_mul]; positivity
  rcases IntOp.ori_eq_one.1 h' with e | e
  · left
    have := EReal.coe_lt_coe_iff.1 (State.cmp_iff.1 e)
    rw [mul_one_div, div_lt_iff₀ b0, mul_comm]
    exact this
  · right
    have e := State.cmp_iff.1 e
    have p1 : 0 < a * k := mul_pos ha' k0
    have p2 : 0 < a * (1 / b) := mul_pos ha' (by positivity)
    rw [Ideal.div_coe b0.ne', ← EReal.coe_mul, ← EReal.coe_mul, Ideal.log_coe, Ideal.log_coe, Ideal.log_coe, if_neg (not_le.2 p1),
      if_neg (not_le.2 p2), if_neg (by norm_num), Ideal.div_coe Scale.log_two_pos.ne', Ideal.div_coe Scale.log_two_pos.ne',
      ← EReal.coe_mul, ← EReal.coe_mul, Ideal.liftRound_coe, Ideal.liftRound_coe, mul_one_div, mul_one_div] at e
    rw [mul_comm k]
    exact ⟨p1, Int.cast_injective (EReal.coe_eq_coe_iff.1 e)⟩

theorem tops_apply {x : FVec Ideal S37376x2048 .f32} {R : Fin 37376} {q : Fin 16} {f : Fin 37376 → Fin 2048 → ℝ}
    (h : ∀ j, x (ix2 R j) = (f R j : EReal)) : tops x (ix2 R q) = ((Meant.top f R q : ℝ) : EReal) := by
  have e := Scale.fold_top (f := fun b => f R (Meant.colOf q b)) (k := 1) zero_le_one Consts.ofBits_bot
    (g := fun b => FloatOps.absf (x (ix2 R (Meant.colOf q b)))) fun b => by rw [h, one_mul]; exact State.abs_coe _
  rw [one_mul] at e
  refine Eq.trans ?_ e
  pointwise [tops]
  congr 1
  funext b
  congr 3
  exact Fin.ext (by show q.val * 128 + b.val = 128 * q.val + b.val; omega)

section Entry

variable {P : FVec Ideal S37376x2048 .f32} {G : FVec Ideal S37376x2048 .bf16} {mc : IVec S37376x2048 8}
  {ms : FVec Ideal S37376x16 .f32} {vc : IVec S37376x2048 8} {vs : FVec Ideal S37376x16 .f32} {step : IVec S_ 32}
  {gsum : FVec Ideal S8x128 .f32}

theorem every_apply (b : BitVec 32) (i : S37376x2048.Idx) : every b i = Ideal.ofBits .f32 b := rfl

theorem clipped_apply {i : S37376x2048.Idx} {g : ℝ} (h : G i = (g : EReal)) : clipped G gsum i = ((g * Meant.clip gsum : ℝ) : EReal) := by
  have e : clipped G gsum i = G i * min (Ideal.ofBits .f32 0x3F800000#32)
      (Ideal.div (Ideal.ofBits .f32 0x3F800000#32) (Ideal.sqrt (shapeCast S_ (extractStridedSlice S1x1 ![0, 0] gsum
        Facts.slices_S8x128_S1x1_0_0) Facts.shapeCasts_S1x1_S_ (fun a : Fin 0 => a.elim0)) + Ideal.ofBits .f32 0x358637BD#32)) := by
    pointwise [clipped]
  rw [e, show shapeCast S_ (extractStridedSlice S1x1 ![0, 0] gsum Facts.slices_S8x128_S1x1_0_0) Facts.shapeCasts_S1x1_S_
      (fun a : Fin 0 => a.elim0) = gsum (ix2 0 0) by pointwise, State.ofBits_one, Consts.ofBits_clipEps, ← Element.clipOf, Meant.clip_eq, h,
    ← EReal.coe_mul]

theorem magnitude_apply (s : ℕ) (hs : s < 32) (k : BitVec 32) (x : IVec S37376x2048 8) (i : S37376x2048.Idx) :
    magnitude (BitVec.ofNat 32 s) k x i = Ideal.ofBits .f32 (State.field s (x i)) * Ideal.ofBits .f32 k := by
  have e : magnitude (BitVec.ofNat 32 s) k x i = Ideal.ofBits .f32 (IntOp.shli .host (IntOp.andi ((x i).signExtend 32) 127#32) (BitVec.ofNat 32 s))
    * Ideal.ofBits .f32 k := rfl
  have hn : (BitVec.ofNat 32 s).toNat = s := by rw [BitVec.toNat_ofNat]; exact Nat.mod_eq_of_lt (by omega)
  rw [e, IntOp.shli, if_pos (by rw [hn]; exact hs), State.field, BitVec.shiftLeft_eq', hn]

theorem decode_apply {s k : BitVec 32} {x : IVec S37376x2048 8} {i : S37376x2048.Idx} {r : ℝ} (h : magnitude s k x i = (r : EReal)) :
    decode s k x i = ((if (x i).toInt < 0 then -r else r : ℝ) : EReal) := by
  have e : decode s k x i = Scalar.select (IntOp.cmpi .slt (x i) 0#8) (-(magnitude s k x i)) (magnitude s k x i) := rfl
  rw [e, h]
  by_cases hx : (x i).toInt < 0
  · rw [if_pos hx, IntOp.cmpi_slt.2 hx, ← EReal.coe_neg]; rfl
  · rw [if_neg hx]
    exact if_neg fun e : IntOp.cmpi .slt (x i) 0#8 = 1#1 => hx (IntOp.cmpi_slt.1 e)

theorem momentM_apply {m g : FVec Ideal S37376x2048 .f32} {i : S37376x2048.Idx} {a b : ℝ} (hm : m i = (a : EReal)) (hg : g i = (b : EReal)) :
    momentM m g i = (((9 * a + b) / 10 : ℝ) : EReal) := by
  have e : momentM m g i = Ideal.div (Ideal.ofBits .f32 0x41100000#32 * m i + g i) (Ideal.ofBits .f32 0x41200000#32) := rfl
  rw [e, hm, hg, Consts.ofBits_nine, Consts.ofBits_ten, Ideal.div_coe (by norm_num), ← EReal.coe_mul, ← EReal.coe_add, ← EReal.coe_mul,
    mul_one_div]

theorem momentV_apply {v g : FVec Ideal S37376x2048 .f32} {i : S37376x2048.Idx} {a b : ℝ} (hv : v i = (a : EReal)) (hg : g i = (b : EReal)) :
    momentV v g i = ((Consts.beta2 * a + b * b / 1000 : ℝ) : EReal) := by
  have e : momentV v g i = Ideal.ofBits .f32 0x3F7FBE77#32 * v i + Ideal.div (g i * g i) (Ideal.ofBits .f32 0x447A0000#32) := rfl
  rw [e, hv, hg, Consts.ofBits_beta2, Consts.ofBits_thousand, ← EReal.coe_mul, ← EReal.coe_mul, Ideal.div_coe (by norm_num), ← EReal.coe_mul,
    ← EReal.coe_add, mul_one_div]

theorem product_apply {x y : FVec Ideal S37376x2048 .f32} {i : S37376x2048.Idx} {a b : ℝ} (hx : x i = (a : EReal)) (hy : y i = (b : EReal)) :
    mulf x y i = ((a * b : ℝ) : EReal) := by
  have e : mulf x y i = x i * y i := rfl
  rw [e, hx, hy, EReal.coe_mul]

variable (h : State.Good P G mc ms vc vs step gsum)

include h

theorem newM_apply (R : Fin 37376) (j : Fin 2048) :
    momentM (mulf (decode 20#32 0x7B800000#32 mc) (spread ms)) (clipped G gsum) (ix2 R j) = ((Meant.newM G mc ms gsum R j : ℝ) : EReal) := by
  obtain ⟨r, -, -, h1, h2⟩ := State.decode_m (h.mword (ix2 R j))
  refine (momentM_apply (product_apply (decode_apply ((magnitude_apply 20 (by norm_num) _ _ _).trans h1))
    ((spread_apply ms R j).trans (Meant.mscale_eq h _))) (clipped_apply (Meant.grad_eq h _))).trans (congrArg Real.toEReal ?_)
  rw [Meant.newM, Element.newM, h2, EReal.toReal_coe]
  ring

theorem newV_apply (R : Fin 37376) (j : Fin 2048) :
    momentV (mulf (decode 21#32 0x77800000#32 vc) (spread vs)) (clipped G gsum) (ix2 R j) = ((Meant.newV G vc vs gsum R j : ℝ) : EReal) := by
  obtain ⟨r, -, -, h1, h2, h3⟩ := State.decode_v (h.vword (ix2 R j)).1 (h.vword (ix2 R j)).2
  refine (momentV_apply (product_apply (decode_apply ((magnitude_apply 21 (by norm_num) _ _ _).trans h1))
    ((spread_apply vs R j).trans (Meant.vscale_eq h _))) (clipped_apply (Meant.grad_eq h _))).trans (congrArg Real.toEReal ?_)
  rw [Meant.newV, Element.newV, h2, EReal.toReal_coe, if_neg h3]
  ring

/-- Where the mask is set, the multiplied greatest magnitude has the exponent of the divided one. -/
theorem settledM_expo {R : Fin 37376} {q : Fin 16} (hs : settledM G mc ms gsum (ix2 R q) = 1#1) :
    Scale.expo (Meant.top (Meant.newM G mc ms gsum) R q * (1 / 448)) = Scale.expo (Consts.mMul * Meant.top (Meant.newM G mc ms gsum) R q) :=
  settled_expo (tops_apply fun j => newM_apply h R j) (Meant.top_nonneg _ _ _) Consts.ofBits_mMul Consts.ofBits_448 Consts.ofBits_mTiny
    Consts.mMul_pos (by norm_num) Consts.mMul_le hs

theorem settledV_expo {R : Fin 37376} {q : Fin 16} (hs : settledV G vc vs gsum (ix2 R q) = 1#1) :
    Scale.expo (Meant.top (Meant.newV G vc vs gsum) R q * (1 / 57344)) = Scale.expo (Consts.vMul * Meant.top (Meant.newV G vc vs gsum) R q) :=
  settled_expo (tops_apply fun j => newV_apply h R j) (Meant.top_nonneg _ _ _) Consts.ofBits_vMul Consts.ofBits_57344 Consts.ofBits_vTiny
    Consts.vMul_pos (by norm_num) Consts.vMul_le hs

end Entry

end Cert.On_claimed

end
-- ==== Proof.UpdateClaim.lean ====
module

public import proofs.«01_k».proof.Defs
public import proofs.«01_k».proof.Proof.QuantArray
public import proofs.«01_k».proof.Proof.RefArray
public import proofs.«01_k».proof.Proof.Settled

/-! The claims about the update that are not generated: its named constants, and its results against the reference's. -/

@[expose] public section

noncomputable section

namespace Cert.Proof

open Idealize.ShloMosaic Idealize.ShloMosaic.TcCoe Idealize.SL.Sem

theorem facts_state : Cert.Pre_state_in_range.Facts :=
  ⟨by decide, by decide, by decide, by decide, by decide, by decide, by decide, by decide, by decide, by decide, by decide⟩

theorem facts_claimed : Cert.On_claimed.Facts :=
  ⟨by decide, by decide, by decide, by decide, by decide, by decide, by decide, by decide, by decide, by decide, by decide, by decide,
    by decide⟩

/-- Each named constant has the value the table gives it. -/
theorem preserves_update : Cert.preserves_Update_UpdateIdeal :=
  ⟨IdealRules.named_const.statement Cert.UpdateIdeal.κ "log_beta1" .f32 0xBDD7C741#32 ((Real.log (9 / 10) : ℝ) : EReal) rfl,
    IdealRules.named_const.statement Cert.UpdateIdeal.κ "log_beta2" .f32 0xBA832338#32 ((Real.log (999 / 1000) : ℝ) : EReal) rfl,
    IdealRules.named_const.statement Cert.UpdateIdeal.κ "one_minus_beta1" .f32 0x3DCCCCCD#32 ((1 / 10 : ℝ) : EReal) rfl,
    IdealRules.named_const.statement Cert.UpdateIdeal.κ "root_one_minus_beta2" .f32 0x3D0186E2#32 ((Real.sqrt (1 / 1000) : ℝ) : EReal) rfl,
    IdealRules.named_const.statement Cert.UpdateIdeal.κ "neg_eps_over_lr" .f32 0xB727C5AC#32 ((-1 / 100000 : ℝ) : EReal) rfl,
    IdealRules.named_const.statement Cert.UpdateIdeal.κ "beta1" .f32 0x3F666666#32 ((9 / 10 : ℝ) : EReal) rfl,
    IdealRules.named_const.statement Cert.UpdateIdeal.κ "lr_wd" .f32 0x3727C5AC#32 ((1 / 100000 : ℝ) : EReal) rfl⟩

theorem scale_of_expo {x y : ℝ} (h : Scale.expo x = Scale.expo y) : Scale.scale x = Scale.scale y := by
  rw [Scale.scale, Scale.scale, h]

theorem inv_of_expo {x y : ℝ} (h : Scale.expo x = Scale.expo y) : Scale.inv x = Scale.inv y := by
  rw [Scale.inv, Scale.inv, h]

/-- The kernel's results are the reference's: the parameter update everywhere, the codes and the scales where the mask is
set. -/
theorem algebraic_update : Cert.algebraic_UpdateIdeal_ReferenceIdeal_on_claimed_pre_state_in_range
    (hUpdateIdeal := Cert.UpdateIdeal.Gen.facts) (hReferenceIdeal := Cert.ReferenceIdeal.Gen.facts)
    (hPre_state_in_range := facts_state) (hOn_claimed := facts_claimed) := by
  intro m ρ m' ρ' hpre hagree
  have good : ∀ c, Cert.UpdateIdeal.Tile.Good m c := fun c => @Cert.State.good facts_state _ _ _ _ _ _ _ _ (hpre c)
  have good' : ∀ c, Cert.ReferenceIdeal.Whole.Good m' c := fun c => by
    obtain ⟨h0, h1, h2, h3, h4, h5, h6, h7⟩ := hagree c
    unfold Cert.ReferenceIdeal.Whole.Good
    rw [h0, h1, h2, h3, h4, h5, h6, h7]
    exact good c
  have same : ∀ c, Cert.ReferenceIdeal.Whole.update m' c = Cert.UpdateIdeal.Tile.update m c := fun c => by
    obtain ⟨h0, h1, h2, h3, h4, h5, h6, h7⟩ := hagree c
    unfold Cert.ReferenceIdeal.Whole.update
    rw [h0, h1, h2, h3, h4, h5, h6, h7]
    rfl
  have sameM : ∀ c, Cert.ReferenceIdeal.Whole.newM m' c = Cert.UpdateIdeal.Tile.newM m c := fun c => by
    obtain ⟨-, h1, h2, h3, -, -, -, h7⟩ := hagree c
    unfold Cert.ReferenceIdeal.Whole.newM
    rw [h1, h2, h3, h7]
    rfl
  have sameV : ∀ c, Cert.ReferenceIdeal.Whole.newV m' c = Cert.UpdateIdeal.Tile.newV m c := fun c => by
    obtain ⟨-, h1, -, -, h4, h5, -, h7⟩ := hagree c
    unfold Cert.ReferenceIdeal.Whole.newV
    rw [h1, h4, h5, h7]
    rfl
  refine ⟨fun c => Cert.UpdateIdeal.Value.G8 m c, fun c => Cert.UpdateIdeal.Value.G9 m c, fun c => Cert.UpdateIdeal.Value.G10 m c,
    fun c => Cert.UpdateIdeal.Value.G11 m c, fun c => Cert.UpdateIdeal.Value.G12 m c, ?_, ?_⟩
  · refine (θ_run Cert.UpdateIdeal.defs _ _).mono (fun r h c => ?_) (Cert.UpdateIdeal.Value.run (F := Ideal) m ρ)
    obtain ⟨h8, h9, h10, h11, h12, kept⟩ := h c
    exact ⟨fun i _ => congrFun h8 i, fun i _ => congrFun h9 i, fun i _ => congrFun h10 i, fun i _ => congrFun h11 i,
      fun i _ => congrFun h12 i, kept⟩
  · refine (θ_run Cert.ReferenceIdeal.defs _ _).mono (fun r h c => ?_) (Cert.ReferenceIdeal.Value.run_blocks (F := Ideal) m' ρ')
    obtain ⟨h8, h9, h10, h11, h12, kept⟩ := h c
    have expoM : ∀ R q, @Cert.On_claimed.settledM facts_claimed _ _ _ _ (ix2 R q) = 1#1 →
        Scale.expo (Cert.ReferenceIdeal.Whole.magM m' c R q) = Scale.expo (Cert.UpdateIdeal.Tile.magM m c R q) := fun R q hs => by
      rw [Cert.ReferenceIdeal.Whole.magM, sameM c]
      exact @Cert.On_claimed.settledM_expo facts_claimed _ _ _ _ _ _ _ _ (good c) R q hs
    have expoV : ∀ R q, @Cert.On_claimed.settledV facts_claimed _ _ _ _ (ix2 R q) = 1#1 →
        Scale.expo (Cert.ReferenceIdeal.Whole.magV m' c R q) = Scale.expo (Cert.UpdateIdeal.Tile.magV m c R q) := fun R q hs => by
      rw [Cert.ReferenceIdeal.Whole.magV, sameV c]
      exact @Cert.On_claimed.settledV_expo facts_claimed _ _ _ _ _ _ _ _ (good c) R q hs
    refine ⟨fun i _ => (congrFun h8 i).trans ?_, fun i hi => (congrFun h9 i).trans ?_, fun i hi => (congrFun h10 i).trans ?_,
      fun i hi => (congrFun h11 i).trans ?_, fun i hi => (congrFun h12 i).trans ?_, kept⟩
    · rw [Cert.ReferenceIdeal.Whole.dp_array (good' c) i, same c]
      exact (Cert.UpdateIdeal.Tile.dp_array (good c) i).symm
    · rw [@Cert.On_claimed.fn_eq facts_claimed] at hi
      obtain ⟨R, j, rfl⟩ : ∃ R j, i = ix2 R j := ⟨_, _, eq_ix2 (n0 := 37376) (n1 := 2048) i⟩
      have e := expoM R (Meant.group j) ((@Cert.On_claimed.spread_apply facts_claimed _ _ R j).symm.trans hi)
      have q : Cert.ReferenceIdeal.Whole.quantM m' c R j = Cert.UpdateIdeal.Tile.quantM m c R j := by
        rw [Cert.ReferenceIdeal.Whole.quantM, Cert.UpdateIdeal.Tile.quantM, inv_of_expo e, sameM c]
      exact (Cert.ReferenceIdeal.Whole.codeM_array (good' c) (ix2 R j)).trans ((congrArg Real.toEReal q).trans
        (Cert.UpdateIdeal.Tile.codeM_array (good c) (ix2 R j)).symm)
    · rw [@Cert.On_claimed.fn_eq facts_claimed] at hi
      obtain ⟨q, R, rfl⟩ : ∃ q R, i = ix2 q R := ⟨_, _, eq_ix2 (n0 := 16) (n1 := 37376) i⟩
      have e := expoM R q ((@Cert.On_claimed.flip_apply facts_claimed _ R q).symm.trans hi)
      exact (Cert.ReferenceIdeal.Whole.scaleM_array (good' c) (ix2 q R)).trans ((congrArg Real.toEReal (scale_of_expo e)).trans
        (Cert.UpdateIdeal.Tile.scaleM_array (good c) (ix2 q R)).symm)
    · rw [@Cert.On_claimed.fn_eq facts_claimed] at hi
      obtain ⟨R, j, rfl⟩ : ∃ R j, i = ix2 R j := ⟨_, _, eq_ix2 (n0 := 37376) (n1 := 2048) i⟩
      have e := expoV R (Meant.group j) ((@Cert.On_claimed.spread_apply facts_claimed _ _ R j).symm.trans hi)
      have q : Cert.ReferenceIdeal.Whole.quantV m' c R j = Cert.UpdateIdeal.Tile.quantV m c R j := by
        rw [Cert.ReferenceIdeal.Whole.quantV, Cert.UpdateIdeal.Tile.quantV, inv_of_expo e, sameV c]
      exact (Cert.ReferenceIdeal.Whole.codeV_array (good' c) (ix2 R j)).trans ((congrArg Real.toEReal q).trans
        (Cert.UpdateIdeal.Tile.codeV_array (good c) (ix2 R j)).symm)
    · rw [@Cert.On_claimed.fn_eq facts_claimed] at hi
      obtain ⟨q, R, rfl⟩ : ∃ q R, i = ix2 q R := ⟨_, _, eq_ix2 (n0 := 16) (n1 := 37376) i⟩
      have e := expoV R q ((@Cert.On_claimed.flip_apply facts_claimed _ R q).symm.trans hi)
      exact (Cert.ReferenceIdeal.Whole.scaleV_array (good' c) (ix2 q R)).trans ((congrArg Real.toEReal (scale_of_expo e)).trans
        (Cert.UpdateIdeal.Tile.scaleV_array (good c) (ix2 q R)).symm)

end Cert.Proof

end
-- ==== Proof.lean ====
module

public import proofs.«01_k».proof.Proof.Gen.Norm.Frame
public import proofs.«01_k».proof.Proof.Gen.Update.Frame
public import proofs.«01_k».proof.Proof.NormClaim
public import proofs.«01_k».proof.Proof.UpdateClaim
public import Idealize.ShloMosaic.Adequacy
public import Idealize.ShloMosaic.Init

@[expose] public section

noncomputable section

namespace Cert.Proof

open Idealize.ShloMosaic Idealize.SL.Sem

theorem claim : Cert.Claim :=
  ⟨Cert.Update.Gen.facts, Cert.UpdateIdeal.Gen.facts, Cert.ReferenceIdeal.Gen.facts, Cert.Norm.Gen.facts,
    Cert.NormIdeal.Gen.facts, Cert.NormRefIdeal.Gen.facts, facts_state, facts_claimed,
    fun m ρ _ => Cert.Update.Gen.frame m ρ, fun m ρ _ => Cert.UpdateIdeal.Gen.frame m ρ,
    fun m ρ _ => Cert.UpdateIdeal.Gen.frame m ρ, fun m ρ _ => Cert.ReferenceIdeal.Gen.frame m ρ,
    fun m ρ _ => Cert.ReferenceIdeal.Gen.frame m ρ, fun m ρ _ => Cert.Norm.Gen.frame m ρ,
    fun m ρ _ => Cert.NormIdeal.Gen.frame m ρ, frame_norm_reference, preserves_update, algebraic_update, trivial, algebraic_norm⟩

end Cert.Proof

end
